-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_Reference (m : (ℓ : Loc Cert.Reference.nD Cert.Reference.τ Cert.Reference.sig) → Buf (Elt Bits) ℓ) : Prop :=
  True

def Pre_Reference_ids_in_range [hPre_ids_in_range : Cert.Pre_ids_in_range.Facts] (m : (ℓ : Loc Cert.Reference.nD Cert.Reference.τ Cert.Reference.sig) → Buf (Elt Bits) ℓ) : Prop :=
  ∀ c : Dev Cert.Reference.nD,
    (Cert.Pre_ids_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Reference_pre_ids_in_range [hReference : Cert.Reference.Facts] [hPre_ids_in_range : Cert.Pre_ids_in_range.Facts] : Prop :=
  ∀ (m : (ℓ : Loc Cert.Reference.nD Cert.Reference.τ Cert.Reference.sig) → Buf (Elt Bits) ℓ) (g : Dev Cert.Reference.nD → PrngReg), Pre_Reference_ids_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v1)) (v1 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_v2) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReference : Cert.Reference.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_Reference (hReference := hReference)
    ∧ quiescent_Reference_pre_ids_in_range (hReference := hReference) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
    ∧ bitexact_Kernel_Reference (hKernel := hKernel) (hReference := hReference) (hPre_ids_in_range := hPre_ids_in_range)
-- ==== Pre_ids_in_range.lean ====
abbrev S4x4096x2048 : Shape := ⟨3, ![4, 4096, 2048]⟩
abbrev S4x4096 : Shape := ⟨2, ![4, 4096]⟩
abbrev S65536x128 : Shape := ⟨2, ![65536, 128]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel

variable [Facts]

def fn {F : FTy → Type} [FloatOps F] (main_arg0 : FVec F S4x4096x2048 .f32) (main_arg1 : IVec S4x4096 32) (main_arg2 : FVec F S65536x128 .f32) (main_arg3 : FVec F S65536x128 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 32 := constantI S_ 32 65536#32
  let main_v2 : IVec S4x4096 32 := broadcastInDim S4x4096 ![] bcast_S_S4x4096 main_c_0
  let main_v3 : IVec S4x4096 1 := cmpi .slt main_arg1 main_v2
  let main_v4 : IVec S4x4096 1 := andi main_v1 main_v3
  let main_c_1 : IVec S_ 1 := constantI S_ 1 1#1
  let main_v5 : IVec S_ 1 := (fun x v => Host.reduce IntOp.andi x v reducesTo_S4x4096_S_d0_1 h_S_) main_v4 main_c_1
  main_v5
-- ==== Kernel.lean ====
abbrev S4x4096x2048 : Shape := ⟨3, ![4, 4096, 2048]⟩
abbrev S4x4096 : Shape := ⟨2, ![4, 4096]⟩
abbrev S65536x128 : Shape := ⟨2, ![65536, 128]⟩
abbrev S16384x128 : Shape := ⟨2, ![16384, 128]⟩
abbrev S512 : Shape := ⟨1, ![512]⟩
abbrev S3x128x128 : Shape := ⟨3, ![3, 128, 128]⟩
abbrev S_ : Shape := ⟨0, ![]⟩
abbrev S1x512 : Shape := ⟨2, ![1, 512]⟩
abbrev S1x128x128 : Shape := ⟨3, ![1, 128, 128]⟩
abbrev S128x128 : Shape := ⟨2, ![128, 128]⟩
abbrev S128 : Shape := ⟨1, ![128]⟩
abbrev S4x4096x128 : Shape := ⟨3, ![4, 4096, 128]⟩

abbrev nBuf : Table → Nat
  | .hbm => 8
  | .local .scVector .vmem => 3
  | _ => 0

abbrev bufTy : (tb : Table) → Fin (nBuf tb) → BufTy
  | .hbm, ⟨0, _⟩ => ⟨S4x4096x2048, .f32⟩
  | .hbm, ⟨1, _⟩ => ⟨S4x4096, .i32⟩
  | .hbm, ⟨2, _⟩ => ⟨S65536x128, .f32⟩
  | .hbm, ⟨3, _⟩ => ⟨S65536x128, .f32⟩
  | .hbm, ⟨4, _⟩ => ⟨S16384x128, .f32⟩
  | .hbm, ⟨5, _⟩ => ⟨S16384x128, .f32⟩
  | .hbm, ⟨6, _⟩ => ⟨S4x4096x128, .f32⟩
  | .hbm, ⟨7, _⟩ => ⟨S4x4096x128, .f32⟩
  | .local .scVector .vmem, ⟨0, _⟩ => ⟨S512, .i32⟩
  | .local .scVector .vmem, ⟨1, _⟩ => ⟨S3x128x128, .f32⟩
  | .local .scVector .vmem, ⟨2, _⟩ => ⟨S3x128x128, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
def k0_off2 (i : grid0.Coords) (c0_i32_57 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_56 : BitVec 32 := 512#32
  let v62 : BitVec 32 := Scalar.muli v1 c512_i32_56
  let v63 : BitVec 32 := Scalar.addi v62 c0_i32_57
  let c0_i32_61 : BitVec 32 := 0#32
  ![v63.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x4096x2048 : Shape := ⟨3, ![4, 4096, 2048]⟩
abbrev S4x4096 : Shape := ⟨2, ![4, 4096]⟩
abbrev S65536x128 : Shape := ⟨2, ![65536, 128]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x128 : Shape := ⟨3, ![4, 4096, 128]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S65536x128, .f32⟩
  | .hbm, ⟨3, _⟩ => ⟨S65536x128, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S1, .i32⟩
  | .hbm, ⟨13, _⟩ => ⟨S_, .i32⟩
  | .hbm, ⟨14, _⟩ => ⟨S4x4096x1, .i32⟩
  | .hbm, ⟨15, _⟩ => ⟨S4x4096x1, .i1⟩
  | .hbm, ⟨16, _⟩ => ⟨S1x1x1, .i32⟩
  | .hbm, ⟨17, _⟩ => ⟨S4x4096x1, .i32⟩
  | .hbm, ⟨18, _⟩ => ⟨S4x4096x1, .i1⟩
  | .hbm, ⟨19, _⟩ => ⟨S4x4096x1, .i1⟩
  | .hbm, ⟨20, _⟩ => ⟨S_, .i1⟩
  | .hbm, ⟨21, _⟩ => ⟨S4x4096, .i1⟩
  | .hbm, ⟨22, _⟩ => ⟨S4x4096x128, .f32⟩
  | .hbm, ⟨23, _⟩ => ⟨S4x4096x128, .i1⟩
  | .hbm, ⟨24, _⟩ => ⟨S_, .f32⟩
  | .hbm, ⟨25, _⟩ => ⟨S4x4096x128, .f32⟩
  | .hbm, ⟨26, _⟩ => ⟨S4x4096x128, .f32⟩
  | .hbm, ⟨27, _⟩ => ⟨S_, .i32⟩
  | .hbm, ⟨28, _⟩ => ⟨S4x4096, .i32⟩
  | .hbm, ⟨29, _⟩ => ⟨S4x4096, .i1⟩
  | .hbm, ⟨30, _⟩ => ⟨S_, .i32⟩
  | .hbm, ⟨31, _⟩ => ⟨S4x4096, .i32⟩
  | .hbm, ⟨32, _⟩ => ⟨S4x4096, .i32⟩
  | .hbm, ⟨33, _⟩ => ⟨S4x4096, .i32⟩
  | .hbm, ⟨34, _⟩ => ⟨S4x4096x1, .i32⟩
  | .hbm, ⟨35, _⟩ => ⟨S1, .i32⟩
  | .hbm, ⟨36, _⟩ => ⟨S_, .i32⟩
  | .hbm, ⟨37, _⟩ => ⟨S4x4096x1, .i32⟩
  | .hbm, ⟨38, _⟩ => ⟨S4x4096x1, .i1⟩
  | .hbm, ⟨39, _⟩ => ⟨S1x1x1, .i32⟩
  | .hbm, ⟨40, _⟩ => ⟨S4x4096x1, .i32⟩
  | .hbm, ⟨41, _⟩ => ⟨S4x4096x1, .i1⟩
  | .hbm, ⟨42, _⟩ => ⟨S4x4096x1, .i1⟩
  | .hbm, ⟨43, _⟩ => ⟨S_, .i1⟩
  | .hbm, ⟨44, _⟩ => ⟨S4x4096, .i1⟩
  | .hbm, ⟨45, _⟩ => ⟨S4x4096x128, .f32⟩
  | .hbm, ⟨46, _⟩ => ⟨S4x4096x128, .i1⟩
  | .hbm, ⟨47, _⟩ => ⟨S_, .f32⟩
  | .hbm, ⟨48, _⟩ => ⟨S4x4096x128, .f32⟩
  | .hbm, ⟨49, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]
-- ==== Proof.Steps.lean ====
/-
  The four kinds of step a tile of this kernel takes, each as one rule that states only what the proof of the body
  needs: an indirect gather is started, a copy out to HBM is started, a copy in from HBM is started, and a copy is
  waited for. Every copy here completes on a DMA semaphore of its own that stands at zero when it starts, so the rules
  speak of one copy per semaphore. They hold for any signature and any float values.
-/
module

public import Idealize.ShloMosaic.Lib.SparseCore.Stream
public import Idealize.ShloMosaic.Lib.SparseCore.Ops
public import Idealize.ShloMosaic.Lib.Transfers
public import Idealize.ShloMosaic.Lib.Tactic

@[expose] public section

noncomputable section

namespace Cert.Proof.Steps

open Idealize.ShloMosaic
open Idealize.SL
open Idealize.SL.BI (sProp Storable bigSep bigSep_exists_pi)
open scoped Idealize.SL.BI
open Idealize.SL.BI.BIBase Idealize.SL.BI.Laws Idealize.SL.Sem Idealize.SL.ProofMode
open Idealize.SL.RA
open Idealize.ShloMosaic.SparseCore (gatherPayload rows enqueueIndirectGather waitIndirectGather wp_indirectGatherLocal)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp sp' : Space} {s₀ s si : Shape} {e : EltTy} {a : Nat}

local notation "𝕄" => MT nD τ sig Ix (Elt F) Name U Lvl

/-! ## What a window holds -/

/-- The elements of the window `v` are held outright, with some contents. -/
def Some' (v : Memref sig c.2.kind sp s e) : sProp 𝕄 :=
  iprop(∃ f, v.view.loc c ↦[v.view.set]{fullShare} f)

/-- The elements of the window `v` are held outright, and reading the window gives `g`. -/
def Reads (v : Memref sig c.2.kind sp s e) (g : s.Idx → Elt F e) : sProp 𝕄 :=
  iprop(∃ f, ⌜v.view.read (Elt F) f = g⌝ ∗ v.view.loc c ↦[v.view.set]{fullShare} f)

/-- A window that reads as something holds something. -/
theorem Reads.some {v : Memref sig c.2.kind sp s e} {g : s.Idx → Elt F e} :
    (Reads c v g : sProp 𝕄) ⊢ Some' c v := by
  unfold Reads Some'
  iintro ⟨%f, -, H⟩
  iexists f; iexact H

/-- A window just written over whole reads as what was written. -/
theorem Reads.of_write {v : Memref sig c.2.kind sp s e} (f : Buf (Elt F) (v.view.loc c)) (g : s.Idx → Elt F e) :
    (v.view.loc c ↦[v.view.set]{fullShare} (v.view.write (Elt F) f g Finset.univ) : sProp 𝕄) ⊢ Reads c v g := by
  unfold Reads
  iintro H
  iexists _
  isplitr
  · ipureintro; exact View.read_write_univ f g
  · iexact H

/-- A window just written over whole with what `goal` reads as there holds `goal`. -/
theorem write_goal {v : Memref sig c.2.kind sp s e} (f goal : Buf (Elt F) (v.view.loc c)) (g : s.Idx → Elt F e)
    (hg : v.view.read (Elt F) goal = g) :
    (v.view.loc c ↦[v.view.set]{fullShare} (v.view.write (Elt F) f g Finset.univ) : sProp 𝕄)
      = v.view.loc c ↦[v.view.set]{fullShare} goal := by
  refine pointsTo_congr fun i hi => ?_
  obtain ⟨x, -, rfl⟩ := Finset.mem_map.mp hi
  rw [View.write_emb_of_mem _ _ (Finset.mem_univ x), ← hg, View.read_apply, cast_cast, cast_eq]

/-! ## The waits recorded so far -/

/-- The thread owes `O`, and it has recorded no wait beyond those in `W` but waits on its own copies. -/
def Owing (O : CellTallies nD τ sig Ix) (W : Waits sig Ix) (ι : Ix) : sProp 𝕄 :=
  iprop(∃ W', ⌜∀ p ∈ W', p ∈ W ∨ p.2 = ι⌝ ∗ owes c O W')

theorem Owing.intro (O : CellTallies nD τ sig Ix) (W : Waits sig Ix) (ι : Ix) :
    (owes c O W : sProp 𝕄) ⊢ Owing c O W ι := by
  unfold Owing
  iintro H
  iexists W
  isplitr
  · ipureintro; exact fun p hp => .inl hp
  · iexact H

/-! ## The steps -/

/-- An indirect gather is started: from a share of the table, the destination window, a share of the list of row
    numbers (every one a row of the table) and a semaphore at zero. The copy in flight delivers the destination
    reading as the gathered rows, and the two shares back. -/
theorem gather_start [Infinite Name] [EC.LandsIn (upEmb : UEmb _ 𝕄)] (ι : Ix)
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {Q : PUnit → sProp 𝕄}
    {q qo : PosShare TreeShare} {fs : Buf (Elt F) (src.view.loc c)} {fo : Buf (Elt F) (offs.view.loc c)} {g : s.Idx → Elt F e}
    (hN : ∑ j, (dst.slice (s.rowRect hg.axis' j) (s.stride_rowRect hg.axis' j)).view.dmaCredit = dst.view.dmaCredit)
    (hs : 0 < s.numel) (hin : ∀ x, (offs.view.read (Elt F) fo x).toNat < s₀.size hg.axis)
    (hpay : gatherPayload hg (src.view.read (Elt F) fs) (rows (offs.view.read (Elt F) fo) hn hin) = g) :
    iprop((src.view.loc c ↦[src.view.set]{q} fs) ∗ Some' c dst
        ∗ (offs.view.loc c ↦[offs.view.set]{qo} fo) ∗ semVal (c, SemLoc.dma sem) 0)
      ⊢ iprop((Transfers.Flight EC c (.dma sem) ι dst.view.dmaCredit
                iprop(Reads c dst g ∗ (src.view.loc c ↦[src.view.set]{q} fs) ∗ (offs.view.loc c ↦[offs.view.set]{qo} fo))
              -∗ Q ⟨⟩)
          -∗ wp frame (wpE defs 𝒱 c bd) Set.univ (enqueueIndirectGather hp src dst hg offs hn sem hsrc he hsp hr) Q) := by
  subst hpay
  have key := fun fd => wp_indirectGatherLocal (defs := defs) EC 𝒱 c bd (src := src) (dst := dst) (hg := hg) (offs := offs) (hn := hn)
    (sem := sem) (hp := hp) (hsrc := hsrc) (he := he) (hsp := hsp) (hr := hr) (k := pure) (Q := Q) (q := q) (qo := qo) (fs := fs) (fd := fd) (fo := fo)
    ι dst.view.dmaCredit hN hs hin
  simp only [bind_pure] at key
  unfold Some'
  iintro ⟨Hs, ⟨%fd, Hd⟩, Ho, Hv⟩ Hk
  iapply (key fd) $$ [Hs Hd Ho Hv]
  · isplitl [Hs]; · iexact Hs
    isplitl [Hd]; · iexact Hd
    isplitl [Ho] <;> iassumption
  iintro Hf
  rw [wp_pure]
  imodintro
  iapply Hk
  iapply (Transfers.Flight_mono EC c (D := iprop((dst.view.loc c ↦[dst.view.set]{fullShare} _) ∗ (src.view.loc c ↦[src.view.set]{q} fs) ∗ (offs.view.loc c ↦[offs.view.set]{qo} fo)))
    (sep_mono (Reads.of_write c fd _) Entails.rfl)) $$ Hf

/-- A copy from a window that reads as `g` out to a window of HBM is started, on a semaphore at zero, `goal` reading
    as `g` there. The copy in flight delivers the HBM window at `goal` and the source window. -/
theorem writeOut_start [Infinite Name] [EC.LandsIn (upEmb : UEmb _ 𝕄)] (ι : Ix)
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {Q : PUnit → sProp 𝕄} {g : s.Idx → Elt F e} {fd goal : Buf (Elt F) (dst.view.loc c)}
    (hN0 : 0 < dst.view.dmaCredit) (hgoal : dst.view.read (Elt F) goal = g) :
    iprop(Reads c src g ∗ (dst.view.loc c ↦[dst.view.set]{fullShare} fd) ∗ semVal (c, SemLoc.dma sem) 0)
      ⊢ iprop((Transfers.Flight EC c (.dma sem) ι dst.view.dmaCredit
                iprop((dst.view.loc c ↦[dst.view.set]{fullShare} goal) ∗ Some' c src)
              -∗ Q ⟨⟩)
          -∗ wp frame (wpE defs 𝒱 c bd) Set.univ (Prog.lift (.enqueueDma src (.here dst) (.dma sem) hsrc hdst hsem)) Q) := by
  unfold Reads
  iintro ⟨⟨%f, %hf, Hs⟩, Hd, Hv⟩ Hk
  iapply (Transfers.wp_dmaLocal (defs := defs) EC 𝒱 c bd (src := src) (via := .same) (dst := dst) (k := Prog.ret) (q := fullShare) (fs := f) (fd := fd)
    ι dst.view.dmaCredit rfl hN0 subset_rfl) $$ [Hs Hd Hv]
  · isplitl [Hs]; · iexact Hs
    isplitl [Hd] <;> iassumption
  iintro Hf
  rw [wp_ret]
  imodintro
  iapply Hk
  iapply (Transfers.Flight_mono EC c (D := iprop((dst.view.loc c ↦[dst.view.set]{fullShare} _) ∗ (src.view.loc c ↦[src.view.set]{fullShare} f))) (by
    refine sep_mono (Entails.of_eq (write_goal c fd goal _ (hgoal.trans hf.symm))) ?_
    unfold Some'
    iintro H
    iexists f; iexact H)) $$ Hf

/-- A copy from a share of a window of HBM into a window is started, on a semaphore at zero. The copy in flight delivers
    the destination reading as the source reads, and the share back. -/
theorem readIn_start [Infinite Name] [EC.LandsIn (upEmb : UEmb _ 𝕄)] (ι : Ix)
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {Q : PUnit → sProp 𝕄} {q : PosShare TreeShare} {fs : Buf (Elt F) (src.view.loc c)}
    (hN0 : 0 < dst.view.dmaCredit) :
    iprop((src.view.loc c ↦[src.view.set]{q} fs) ∗ Some' c dst ∗ semVal (c, SemLoc.dma sem) 0)
      ⊢ iprop((Transfers.Flight EC c (.dma sem) ι dst.view.dmaCredit
                iprop(Reads c dst (src.view.read (Elt F) fs) ∗ (src.view.loc c ↦[src.view.set]{q} fs))
              -∗ Q ⟨⟩)
          -∗ wp frame (wpE defs 𝒱 c bd) Set.univ (Prog.lift (.enqueueDma src (.here dst) (.dma sem) hsrc hdst hsem)) Q) := by
  unfold Some'
  iintro ⟨Hs, ⟨%fd, Hd⟩, Hv⟩ Hk
  iapply (Transfers.wp_dmaLocal (defs := defs) EC 𝒱 c bd (src := src) (via := .same) (dst := dst) (k := Prog.ret) (q := q) (fs := fs) (fd := fd)
    ι dst.view.dmaCredit rfl hN0 subset_rfl) $$ [Hs Hd Hv]
  · isplitl [Hs]; · iexact Hs
    isplitl [Hd] <;> iassumption
  iintro Hf
  rw [wp_ret]
  imodintro
  iapply Hk
  iapply (Transfers.Flight_mono EC c (D := iprop((dst.view.loc c ↦[dst.view.set]{fullShare} _) ∗ (src.view.loc c ↦[src.view.set]{q} fs)))
    (sep_mono (Reads.of_write c fd _) Entails.rfl)) $$ Hf

/-- A copy in flight is waited for: its delivery, its semaphore at zero again, and the wait recorded. -/
theorem copy_wait [EC.LandsIn (upEmb : UEmb _ 𝕄)] (ι : Ix) {s' : Shape} {e' : EltTy} {κ' : Kind} {sem : DmaSem sig}
    {srcw : Memref sig c.2.kind sp' s' e'} {dstw : Memref sig κ' sp s e} {hsrc : srcw.view.WordExact} {hdst : dstw.view.WordExact}
    {Q : PUnit → sProp 𝕄} {N : ℕ} {D : sProp 𝕄} {O : CellTallies nD τ sig Ix} {W : Waits sig Ix} (hN : dstw.view.dmaCredit = N) :
    iprop(Transfers.MayWaits c ι O ∗ Transfers.Flight EC c (.dma sem) ι N D ∗ Owing c O W ι)
      ⊢ iprop((iprop(D ∗ semVal (c, .dma sem) 0 ∗ Owing c O W ι) -∗ Q ⟨⟩)
          -∗ wp frame (wpE defs 𝒱 c bd) Set.univ (Prog.lift (.waitDma2 sem srcw dstw hsrc hdst)) Q) := by
  unfold Owing
  iintro ⟨Hmw, Hf, %W', %hW', HO⟩ Hk
  iapply (Transfers.wp_waitLocalO (defs := defs) EC 𝒱 c bd (k := Prog.ret) ι hN) $$ [Hmw Hf HO]
  · isplitl [Hf]; · iexact Hf
    isplitl [HO]; · iexact HO
    iapply (Transfers.MayWaits.elim (SemLoc.dma sem)) $$ Hmw
  iintro ⟨HD, Hv, HO⟩
  rw [wp_ret]
  imodintro
  iapply Hk
  isplitl [HD]; · iexact HD
  isplitl [Hv]; · iexact Hv
  iexists _
  isplitr
  swap; · iexact HO
  ipureintro
  intro p hp
  rcases Finset.mem_insert.mp hp with hp | hp
  · exact .inr (hp ▸ rfl)
  · exact hW' p hp

/-- The same for the wait an indirect gather takes. -/
theorem gather_wait [EC.LandsIn (upEmb : UEmb _ 𝕄)] (ι : Ix) {s' : Shape} {e' : EltTy} {sem : DmaSem sig}
    {srcw : Memref sig c.2.kind sp' s' e'} {dstw : Memref sig c.2.kind .vmem s e} {hsrc : srcw.view.WordExact} {hdst : dstw.view.WordExact}
    {Q : PUnit → sProp 𝕄} {N : ℕ} {D : sProp 𝕄} {O : CellTallies nD τ sig Ix} {W : Waits sig Ix} (hN : dstw.view.dmaCredit = N) :
    iprop(Transfers.MayWaits c ι O ∗ Transfers.Flight EC c (.dma sem) ι N D ∗ Owing c O W ι)
      ⊢ iprop((iprop(D ∗ semVal (c, .dma sem) 0 ∗ Owing c O W ι) -∗ Q ⟨⟩)
          -∗ wp frame (wpE defs 𝒱 c bd) Set.univ (waitIndirectGather sem srcw dstw hsrc hdst) Q) :=
  copy_wait EC 𝒱 c bd ι hN

/-! ## A window cut along an axis -/

section Cut

variable {κ : Kind} (v : View sig c.2.kind sp s e) {a₀ : Fin s.rank} {n : ℕ} (hn : n ∣ s.size a₀)

/-- The elements of part `j` of the `n` equal parts of a window. -/
abbrev partSet (j : Fin n) : Finset v.ty.Idx := (v.slice (Rect.part hn j)).set

omit [DecidableEq Ix] [DecidableEq Name] [URA U] [Preorder Lvl] in
theorem partSet_disjoint : ∀ j ∈ (Finset.univ : Finset (Fin n)), ∀ j' ∈ (Finset.univ : Finset (Fin n)), j ≠ j' →
    Disjoint (partSet c v hn j) (partSet c v hn j') := fun j _ j' _ h => by
  unfold partSet
  rw [View.set_slice, View.set_slice, Finset.disjoint_map]
  exact Rect.part_disjoint hn h

omit [DecidableEq Ix] [DecidableEq Name] [URA U] [Preorder Lvl] in
theorem partSet_cover : (Finset.univ : Finset (Fin n)).biUnion (partSet c v hn) = v.set := by
  ext i
  simp only [partSet, View.set_slice, Finset.mem_biUnion, Finset.mem_univ, true_and, Finset.mem_map]
  constructor
  · rintro ⟨j, x, -, rfl⟩
    exact Finset.mem_map.mpr ⟨x, Finset.mem_univ x, rfl⟩
  · intro hi
    obtain ⟨x, -, rfl⟩ := Finset.mem_map.mp hi
    obtain ⟨j, hj⟩ := Rect.exists_mem_part hn x
    exact ⟨j, x, hj, rfl⟩

/-- A window's elements at some contents are its parts' elements at those contents. -/
theorem window_cut (q : PosShare TreeShare) (f : Buf (Elt F) (v.loc c)) :
    (v.loc c ↦[v.set]{q} f : sProp 𝕄) = bigSep Finset.univ fun j : Fin n => v.loc c ↦[partSet c v hn j]{q} f := by
  rw [← pointsTo_biUnion Finset.univ (ℓ := v.loc c) (partSet c v hn) (partSet_disjoint c v hn), partSet_cover]

/-- The parts' elements, each at some contents, are the window's elements at some contents. -/
theorem window_join [Nonempty (Buf (Elt F) (v.loc c))] (q : PosShare TreeShare) :
    (bigSep Finset.univ fun j : Fin n => iprop(∃ f, v.loc c ↦[partSet c v hn j]{q} f))
      ⊢ (iprop(∃ f, v.loc c ↦[v.set]{q} f) : sProp 𝕄) := by
  refine (bigSep_exists_pi Finset.univ (fun j (f : Buf (Elt F) (v.loc c)) => v.loc c ↦[partSet c v hn j]{q} f)).trans ?_
  iintro ⟨%fs, H⟩
  ihave H' := (pointsTo_biUnion_join (ℓ := v.loc c) (q := q) (Val := Elt F) Finset.univ (partSet c v hn) fs (Classical.arbitrary _)
    (partSet_disjoint c v hn)) $$ H
  icases H' with ⟨%g, -, Hg⟩
  rw [partSet_cover]
  iexists g; iexact Hg

end Cut

end Cert.Proof.Steps

end
-- ==== Proof.Rows.lean ====
/-
  What the two results are, in terms of the arguments alone: at (a, b, k), entry k of the table's row that position
  (a, b) names. Both programs' results are compared with this function. Also here: what the precondition says of the
  positions, and what a gather of whole rows reads.
-/
module

public import proofs.«01_k».proof.Proof.Gen.Pre_ids_in_range
public import Idealize.ShloMosaic.Lib.ReduceAll
public import Idealize.ShloMosaic.Lib.Pipeline.Value

@[expose] public section

noncomputable section

namespace Cert.Proof.Rows

open Idealize.ShloMosaic

/-- The shapes of the positions, of a table, and of a result. -/
abbrev Places : Shape := ⟨2, ![4, 4096]⟩
abbrev Table : Shape := ⟨2, ![65536, 128]⟩
abbrev Result : Shape := ⟨3, ![4, 4096, 128]⟩

/-- The row of the table each position names, entry by entry. -/
def looked {α : Type} (pos : Places.Idx → BitVec 32) (tbl : Table.Idx → α) : Result.Idx → α := fun x =>
  tbl (Shape.pair (d := ![65536, 128])
    ⟨(pos (Shape.pair (d := ![4, 4096]) (x 0) (x 1))).toNat % 65536, Nat.mod_lt _ (by omega)⟩ (x 2))

/-- A word that is at least 0 and below 65536 as a signed number is below 65536 as an unsigned one. -/
theorem toNat_lt_of_range {v : BitVec 32} (h0 : IntOp.cmpi .sge v 0#32 = 1#1) (h1 : IntOp.cmpi .slt v 65536#32 = 1#1) :
    v.toNat < 65536 := by
  rw [IntOp.cmpi_sge] at h0
  rw [IntOp.cmpi_slt] at h1
  have e0 : (0#32 : BitVec 32).toInt = 0 := by decide
  have e1 : (65536#32 : BitVec 32).toInt = 65536 := by decide
  rw [e0] at h0
  rw [e1] at h1
  have := BitVec.toInt_eq_toNat_cond v
  split at this <;> omega

/-- The precondition says that every position is a row of the tables. -/
theorem inRange_of_pre {F : FTy → Type} [FloatOps F] {x pos c s}
    (h : Cert.Pre_ids_in_range.fn (F := F) x pos c s = fun _ => 1#1) (j : Places.Idx) : (pos j : BitVec 32).toNat < 65536 := by
  have e := congrFun h (fun a => a.elim0)
  have hj := Host.reduce_andi_eq_one _ _ _ _ _ e j (funext fun a => a.elim0)
  exact toNat_lt_of_range (IntOp.andi_eq_one.1 hj).1 (IntOp.andi_eq_one.1 hj).2

/-! ## A small position as a signed word -/

theorem toInt_small {v : BitVec 32} (h : v.toNat < 65536) : v.toInt = v.toNat := by
  have := BitVec.toInt_eq_toNat_cond v
  split at this <;> omega

theorem not_negative {v : BitVec 32} (h : v.toNat < 65536) : ¬ IntOp.cmpi .slt v 0#32 = 1#1 := by
  rw [IntOp.cmpi_slt, toInt_small h]
  have e0 : (0#32 : BitVec 32).toInt = 0 := by decide
  omega

theorem in_table {v : BitVec 32} (h : v.toNat < 65536) :
    IntOp.andi (IntOp.cmpi .sge v 0#32) (IntOp.cmpi .sle v 65535#32) = 1#1 := by
  rw [IntOp.andi_eq_one, IntOp.cmpi_sge, IntOp.cmpi_sle, toInt_small h]
  have e0 : (0#32 : BitVec 32).toInt = 0 := by decide
  have e1 : (65535#32 : BitVec 32).toInt = 65535 := by decide
  omega

/-! ## A gather of whole rows -/

/-- The place of the start index of result entry `x`. -/
def startAt (x : Result.Idx) : (⟨3, ![4, 4096, 1]⟩ : Shape).Idx := fun
  | ⟨0, _⟩ => x 0
  | ⟨1, _⟩ => x 1
  | ⟨2, _⟩ => (0 : Fin 1)
  | ⟨_ + 3, h⟩ => absurd h (Nat.not_lt.2 (Nat.le_add_left _ _))

/-- The dimension numbers of a gather of one whole row of a table per start index. -/
abbrev rowDims (wf : GatherDims.WF Table ⟨3, ![4, 4096, 1]⟩ Result [2] [0] [] [0] [] 2 ![1, 128]) :
    GatherDims Table ⟨3, ![4, 4096, 1]⟩ Result where
  offsetDims := [2]
  collapsedSliceDims := [0]
  operandBatchingDims := []
  startIndicesBatchingDims := []
  startIndexMap := [0]
  indexVectorDim := 2
  sliceSizes := ![1, 128]
  wf := wf

/-- Where the start indices are rows of the table, such a gather reads those rows. -/
theorem gather_rows {α : Type} (wf) (tbl : Table.Idx → α) (ix : IVec ⟨3, ![4, 4096, 1]⟩ 32) (x : Result.Idx)
    (h : (ix (startAt x)).toNat < 65536) :
    Host.gather (rowDims wf) tbl ix x
      = tbl (Shape.pair (d := ![65536, 128]) ⟨(ix (startAt x)).toNat % 65536, Nat.mod_lt _ (by omega)⟩ (x 2)) := by
  unfold Host.gather
  refine congrArg tbl (funext fun a => Fin.ext ?_)
  show (rowDims wf).start x ix a + (rowDims wf).batchCoord x a + (rowDims wf).offCoord x a = _
  rw [(rowDims wf).batchCoord_eq_zero x a List.not_mem_nil, Nat.add_zero]
  match a with
  | ⟨0, _⟩ =>
    have hs : (rowDims wf).siIdx x ⟨(rowDims wf).startIndexMap.idxOf 0, List.idxOf_lt_length_iff.2 (List.mem_singleton.2 rfl)⟩ = startAt x := by
      funext b
      match b with
      | ⟨0, _⟩ => rfl
      | ⟨1, _⟩ => rfl
      | ⟨2, _⟩ => rfl
    show (rowDims wf).start x ix 0 + (rowDims wf).offCoord x 0 = (ix (startAt x)).toNat % 65536
    rw [(rowDims wf).offCoord_eq_zero x 0 (fun m => (((rowDims wf).mem_sKept 0).1 m).1 (List.mem_singleton.2 rfl)), Nat.add_zero,
      GatherDims.start, dif_pos (show (0 : Fin 2) ∈ (rowDims wf).startIndexMap from List.mem_singleton.2 rfl), hs, toInt_small h]
    show min ((ix (startAt x)).toNat : ℤ).toNat (65536 - 1) = _
    omega
  | ⟨1, _⟩ =>
    have h1 : (1 : Fin 2) ∉ (rowDims wf).startIndexMap := (by decide : (1 : Fin 2) ∉ ([0] : List (Fin 2)))
    show (rowDims wf).start x ix 1 + (rowDims wf).offCoord x 1 = (x 2).val
    rw [GatherDims.start, dif_neg h1, Nat.zero_add]
    rfl

end Cert.Proof.Rows

end
-- ==== Proof.SetupIdeal.lean ====
/-
  The same module for the kernel read over the extended reals; Setup.lean with the namespaces replaced.

  The kernel's buffers and how they are dealt to the tiles. Thirty-two tiles (two SparseCores of sixteen) each take 512
  of the 16384 positions. A tile reads the position list and both tables through a share of the whole array, and owns
  four chunks of 128 rows of each result. This module names those pieces, states what a tile gives back, and shows that
  the tiles' pieces together are the whole arrays.
-/
module

public import proofs.«01_k».proof.Defs
public import proofs.«01_k».proof.Proof.Steps
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, as the launch theorem takes it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are the launch's own, and no buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

/-- The input the kernel does not read. -/
abbrev xLoc (d : Dev nD) : Loc nD τ sig := (SparseCore.T d).loc main_arg0
/-- The positions. -/
abbrev posLoc (d : Dev nD) : Loc nD τ sig := (SparseCore.T d).loc main_arg1
/-- The two tables. -/
abbrev cosLoc (d : Dev nD) : Loc nD τ sig := (SparseCore.T d).loc main_arg2
abbrev sinLoc (d : Dev nD) : Loc nD τ sig := (SparseCore.T d).loc main_arg3
/-- What the call writes. -/
abbrev coLoc (d : Dev nD) : Loc nD τ sig := (SparseCore.T d).loc main_v0_0
abbrev siLoc (d : Dev nD) : Loc nD τ sig := (SparseCore.T d).loc main_v0_1
/-- The program's two results. -/
abbrev r1Loc (d : Dev nD) : Loc nD τ sig := (SparseCore.T d).loc main_v1
abbrev r2Loc (d : Dev nD) : Loc nD τ sig := (SparseCore.T d).loc main_v2

/-! ## The values -/

/-- The place of position number `p` of 16384 in the 4 × 4096 array. -/
def posIx (p : Fin 16384) : S4x4096.Idx :=
  Shape.pair (d := ![4, 4096]) (⟨p.val / 4096, by omega⟩ : Fin 4) (⟨p.val % 4096, by omega⟩ : Fin 4096)

/-- The row of a table that position number `p` names. -/
def rowAt (pos : S4x4096.Idx → BitVec 32) (p : Fin 16384) : Fin 65536 :=
  ⟨(pos (posIx p)).toNat % 65536, Nat.mod_lt _ (by omega)⟩

/-- The rows of `tbl` at the positions, one row per position: what the call leaves in a result. -/
def taken {e : EltTy} (pos : S4x4096.Idx → BitVec 32) (tbl : S65536x128.Idx → Elt F e) : S16384x128.Idx → Elt F e :=
  fun x => tbl (Shape.pair (d := ![65536, 128]) (rowAt pos (x 0)) (x 1))

abbrev coGoal (d : Dev nD) : Buf (Elt F) (coLoc d) := taken (F := F) (e := .f32) (m (posLoc d)) (m (cosLoc d))
abbrev siGoal (d : Dev nD) : Buf (Elt F) (siLoc d) := taken (F := F) (e := .f32) (m (posLoc d)) (m (sinLoc d))

/-- What the proof asks of the launch memory: every position is a row of the tables. -/
def PreOK : Prop := ∀ (d : Dev nD) (j : S4x4096.Idx), (m (posLoc d) j : BitVec 32).toNat < 65536

/-! ## The tiles and their pieces -/

/-- The number of the tile of SparseCore `c` and subcore `i`: twice the subcore plus the core. -/
def tileE : Fin 2 × Fin 16 ≃ Fin 32 := (Equiv.prodComm _ _).trans finProdFinEquiv
theorem tileE_val (c : Fin 2) (i : Fin 16) : (tileE (c, i)).val = c.val + 2 * i.val := rfl

/-- The number of chunk `r` of tile `w`. -/
def chunkE : Fin 32 × Fin 4 ≃ Fin 128 := finProdFinEquiv
theorem chunkE_val (w : Fin 32) (r : Fin 4) : (chunkE (w, r)).val = r.val + 4 * w.val := rfl

theorem rowsDiv : 128 ∣ S16384x128.size 0 := ⟨128, rfl⟩
/-- The 128 rows of chunk `k` of a result. -/
abbrev chunkRect (k : Fin 128) : Rect S16384x128 := Rect.part (s := S16384x128) (a₀ := 0) rowsDiv k
abbrev chunkSet (w : Fin 32) (r : Fin 4) : Finset S16384x128.Idx := (chunkRect (chunkE (w, r))).set

/-- Tile `w`'s share of an array that every tile reads. -/
abbrev shareOf (w : Fin 32) : PosShare TreeShare := Idealize.ShloMosaic.pieceOf fullShare 32 (by decide) w

abbrev posSh (d : Dev nD) (w : Fin 32) : sProp 𝕄 := posLoc d ↦{shareOf w} m (posLoc d)
abbrev cosSh (d : Dev nD) (w : Fin 32) : sProp 𝕄 := cosLoc d ↦{shareOf w} m (cosLoc d)
abbrev sinSh (d : Dev nD) (w : Fin 32) : sProp 𝕄 := sinLoc d ↦{shareOf w} m (sinLoc d)
abbrev coChunk (d : Dev nD) (w : Fin 32) (f : Buf (Elt F) (coLoc d)) (r : Fin 4) : sProp 𝕄 := coLoc d ↦[chunkSet w r]{fullShare} f
abbrev siChunk (d : Dev nD) (w : Fin 32) (f : Buf (Elt F) (siLoc d)) (r : Fin 4) : sProp 𝕄 := siLoc d ↦[chunkSet w r]{fullShare} f

/-- What tile `w` takes, or gives back: its shares of the arrays it reads, and its chunks of the results at `f`, `g`. -/
abbrev tileRes (d : Dev nD) (f : Buf (Elt F) (coLoc d)) (g : Buf (Elt F) (siLoc d)) (w : Fin 32) : sProp 𝕄 :=
  iprop(posSh m d w ∗ cosSh m d w ∗ sinSh m d w ∗ (bigSep Finset.univ (coChunk d w f)) ∗ bigSep Finset.univ (siChunk d w g))

/-- The whole arrays: the positions, the tables, and the results at `f`, `g`. -/
abbrev wholeRes (d : Dev nD) (f : Buf (Elt F) (coLoc d)) (g : Buf (Elt F) (siLoc d)) : sProp 𝕄 :=
  iprop((posLoc d ↦{fullShare} m (posLoc d)) ∗ (cosLoc d ↦{fullShare} m (cosLoc d)) ∗ (sinLoc d ↦{fullShare} m (sinLoc d))
    ∗ (coLoc d ↦{fullShare} f) ∗ siLoc d ↦{fullShare} g)

/-! ## The pieces are the whole -/

theorem chunks_disjoint : ∀ k ∈ (Finset.univ : Finset (Fin 32 × Fin 4)), ∀ k' ∈ (Finset.univ : Finset (Fin 32 × Fin 4)), k ≠ k' →
    Disjoint (chunkSet k.1 k.2) (chunkSet k'.1 k'.2) :=
  fun _ _ _ _ h => Rect.part_disjoint rowsDiv fun e => h (chunkE.injective e)

theorem chunks_cover : (Finset.univ : Finset (Fin 32 × Fin 4)).biUnion (fun k => chunkSet k.1 k.2) = Finset.univ := by
  ext x
  simp only [Finset.mem_biUnion, Finset.mem_univ, true_and, iff_true]
  obtain ⟨j, hj⟩ := Rect.exists_mem_part rowsDiv x
  exact ⟨chunkE.symm j, by rw [chunkSet, Prod.mk.eta, Equiv.apply_symm_apply]; exact hj⟩

/-- A result held whole is held as every tile's chunks. -/
theorem co_chunks (d : Dev nD) (f : Buf (Elt F) (coLoc d)) :
    (coLoc d ↦{fullShare} f : sProp 𝕄) = bigSep Finset.univ fun w : Fin 32 => bigSep Finset.univ (coChunk d w f) := by
  rw [← bigSep_univ_prod (Φ := fun k : Fin 32 × Fin 4 => coChunk d k.1 f k.2),
    ← pointsTo_biUnion Finset.univ (ℓ := coLoc d) (fun k : Fin 32 × Fin 4 => chunkSet k.1 k.2) chunks_disjoint, chunks_cover]
  try rfl
theorem si_chunks (d : Dev nD) (f : Buf (Elt F) (siLoc d)) :
    (siLoc d ↦{fullShare} f : sProp 𝕄) = bigSep Finset.univ fun w : Fin 32 => bigSep Finset.univ (siChunk d w f) := by
  rw [← bigSep_univ_prod (Φ := fun k : Fin 32 × Fin 4 => siChunk d k.1 f k.2),
    ← pointsTo_biUnion Finset.univ (ℓ := siLoc d) (fun k : Fin 32 × Fin 4 => chunkSet k.1 k.2) chunks_disjoint, chunks_cover]
  try rfl

/-- The whole arrays are the pieces of the tiles of both SparseCores. -/
theorem whole_tiles (d : Dev nD) (f : Buf (Elt F) (coLoc d)) (g : Buf (Elt F) (siLoc d)) :
    (wholeRes m d f g : sProp 𝕄)
      = bigSep Finset.univ fun c : Fin 2 => bigSep Finset.univ fun i : Fin 16 => tileRes m d f g (tileE (c, i)) := by
  rw [← bigSep_univ_prod (Φ := fun k : Fin 2 × Fin 16 => tileRes m d f g (tileE k)), ← bigSep_univ_equiv tileE (tileRes m d f g)]
  unfold tileRes
  rw [bigSep_sep', bigSep_sep', bigSep_sep', bigSep_sep', ← co_chunks, ← si_chunks,
    ← Idealize.ShloMosaic.pointsTo_piecesOf Finset.univ (m (posLoc d)) (by decide) fullShare, ← Idealize.ShloMosaic.pointsTo_piecesOf Finset.univ (m (cosLoc d)) (by decide) fullShare,
    ← Idealize.ShloMosaic.pointsTo_piecesOf Finset.univ (m (sinLoc d)) (by decide) fullShare]

/-! ## What the call hands over -/

variable [FloatOps F]

/-- The tile a subcore of the call's grid is. -/
abbrev wOf (c : Fin ((K (F := F)).nCore 0)) (i : Fin ((K (F := F)).nSub 0)) : Fin 32 :=
  tileE (Fin.cast nCore_zero c, Fin.cast nSub_zero i)

/-- A SparseCore takes its sixteen tiles' pieces, each tile its own; the results come back at the rows taken. -/
def P : (K (F := F)).Pay (nD := nD) (Val := Elt F) (Name := ℕ) (U := UU) where
  st := fun q d c => match q with
    | 0 => bigSep Finset.univ fun i : Fin ((K (F := F)).nSub 0) => tileRes m d (m (coLoc d)) (m (siLoc d)) (wOf c i)
  dn := fun q d c => match q with
    | 0 => bigSep Finset.univ fun i : Fin ((K (F := F)).nSub 0) => tileRes m d (coGoal m d) (siGoal m d) (wOf c i)
  go := fun q d c i => match q with
    | 0 => tileRes m d (m (coLoc d)) (m (siLoc d)) (wOf c i)
  td := fun q d c i => match q with
    | 0 => tileRes m d (coGoal m d) (siGoal m d) (wOf c i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => tileRes m d (m (coLoc d)) (m (siLoc d)) (wOf c i)))
  dn q d c := match q with
    | 0 => (inferInstance : BI.Storable (upEmb : UEmb _ 𝕄)
      (bigSep Finset.univ fun i : Fin ((K (F := F)).nSub 0) => tileRes m d (coGoal m d) (siGoal m d) (wOf c i)))
  go q d c i := match q with
    | 0 => (inferInstance : BI.Storable (upEmb : UEmb _ 𝕄) (tileRes m d (m (coLoc d)) (m (siLoc d)) (wOf c i)))
  td q d c i := match q with
    | 0 => (inferInstance : BI.Storable (upEmb : UEmb _ 𝕄) (tileRes m d (coGoal m d) (siGoal m d) (wOf c i)))

/-- A SparseCore's pieces are its tiles' pieces, on the way out and on the way back. -/
theorem vecSplit : (K (F := F)).VecSplit' (P m) 0 := by
  intro d c
  show (bigSep Finset.univ fun i : Fin ((K (F := F)).nSub 0) => tileRes m d (m (coLoc d)) (m (siLoc d)) (wOf c i))
    ⊢ |={Set.univ}=> iprop((bigSep Finset.univ fun i : Fin ((K (F := F)).nSub 0) => tileRes m d (m (coLoc d)) (m (siLoc d)) (wOf c i))
      ∗ ((bigSep Finset.univ fun i : Fin ((K (F := F)).nSub 0) => tileRes m d (coGoal m d) (siGoal m d) (wOf c i))
        -∗ bigSep Finset.univ fun i : Fin ((K (F := F)).nSub 0) => tileRes m d (coGoal m d) (siGoal m d) (wOf c i)))
  iintro H
  imodintro
  isplitl [H]; · iexact H
  iintro H
  iexact H

/-- What the TensorCore hands the call is the whole arrays, and so is what it gets back. -/
theorem st_whole (d : Dev nD) :
    (bigSep Finset.univ fun c : Fin ((K (F := F)).nCore 0) => (P m).st 0 d c) = (wholeRes m d (m (coLoc d)) (m (siLoc d)) : sProp 𝕄) :=
  (whole_tiles m d (m (coLoc d)) (m (siLoc d))).symm
theorem dn_whole (d : Dev nD) :
    (bigSep Finset.univ fun c : Fin ((K (F := F)).nCore 0) => (P m).dn 0 d c) = (wholeRes m d (coGoal m d) (siGoal m d) : sProp 𝕄) :=
  (whole_tiles m d (coGoal m d) (siGoal m d)).symm

end Cert.Proof.OfKernelIdeal

end
-- ==== Proof.WindowsIdeal.lean ====
/-
  The same module for the kernel read over the extended reals; Windows.lean with the namespaces replaced.

  The windows a tile works through: its 512 positions, the three slots of each of its two row buffers, the four parts
  of its position list, and its chunks of the two results. Which elements each window has, what it reads as, and that
  the rows a gather fetches for part `r` of the list are what belongs in chunk `r` of the result.
-/
module

public import proofs.«01_k».proof.Proof.SetupIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Steps

variable {F : FTy → Type}

local notation "𝕄" => MT nD τ sig (HIx 1) (Elt F) ℕ UU ℕ

variable (m : (ℓ : Loc nD τ sig) → Buf (Elt F) ℓ) (d : Dev nD) (L : grid0.Coords)

/-! ## The tile -/

abbrev coreOf (L : grid0.Coords) : Fin τ.nSC := (L 0).castLE hcore0
abbrev subOf (L : grid0.Coords) : Fin τ.nSub := (L 1).castLE hsub0
/-- The tile at grid point `L`, as a thread. -/
abbrev thr : Thread nD τ := V d (coreOf L) (subOf L)
/-- Its number among the thirty-two. -/
abbrev tileNo (L : grid0.Coords) : Fin 32 := tileE (Fin.cast (show grid0.bound 0 = 2 from rfl) (L 0), Fin.cast (show grid0.bound 1 = 16 from rfl) (L 1))
theorem tileNo_val : (tileNo L).val = (L 0).val + 2 * (L 1).val := rfl

/-! ## The windows -/

abbrev posM : Memref sig .scVector .hbm S4x4096 .i32 := Memref.whole main_arg1_scv
abbrev cosM : Memref sig .scVector .hbm S65536x128 .f32 := Memref.whole main_arg2_scv
abbrev sinM : Memref sig .scVector .hbm S65536x128 .f32 := Memref.whole main_arg3_scv
abbrev coM : Memref sig .scVector .hbm S16384x128 .f32 := Memref.whole main_v0_0_scv
abbrev siM : Memref sig .scVector .hbm S16384x128 .f32 := Memref.whole main_v0_1_scv
abbrev listM : Memref sig .scVector .vmem S512 .i32 := Memref.whole cc0_scratch0
abbrev cbufM : Memref sig .scVector .vmem S3x128x128 .f32 := Memref.whole cc0_scratch1
abbrev sbufM : Memref sig .scVector .vmem S3x128x128 .f32 := Memref.whole cc0_scratch2

/-- The tile's 512 positions. -/
abbrev posRow : Memref sig .scVector .hbm S512 .i32 :=
  (posM.slice (Rect.unit (s := S4x4096) (k0_off1 L) S1x512.size (k0_off1_inb L)) (fun _ => rfl)).squeeze S512 squeezes_S1x512_S512
/-- A whole table, as the gathers name it. -/
abbrev tableOf (M : Memref sig .scVector .hbm S65536x128 .f32) : Memref sig .scVector .hbm S65536x128 .f32 :=
  M.slice (Rect.unit (s := S65536x128) ![0, 0] S65536x128.size inb_S65536x128_S65536x128_0_0) (fun _ => rfl)

theorem slot_inb (k : Fin 3) : ∀ a, (![k.val, 0, 0] : Fin 3 → ℕ) a + S1x128x128.size a ≤ S3x128x128.size a := by revert k; decide
/-- Slot `k` of a row buffer. -/
abbrev slotOf (M : Memref sig .scVector .vmem S3x128x128 .f32) (k : Fin 3) : Memref sig .scVector .vmem S128x128 .f32 :=
  (M.slice (Rect.unit (s := S3x128x128) ![k.val, 0, 0] S1x128x128.size (slot_inb k)) (fun _ => rfl)).squeeze S128x128 squeezes_S1x128x128_S128x128

theorem list_inb (r : Fin 4) : ∀ a, (![128 * r.val] : Fin 1 → ℕ) a + S128.size a ≤ S512.size a := by revert r; decide
/-- Part `r` of the position list. -/
abbrev listPart (r : Fin 4) : Memref sig .scVector .vmem S128 .i32 :=
  listM.slice (Rect.unit (s := S512) ![128 * r.val] S128.size (list_inb r)) (fun _ => rfl)

/-- Chunk `r` of a result. -/
abbrev chunkOf (M : Memref sig .scVector .hbm S16384x128 .f32) (r : Fin 4) : Memref sig .scVector .hbm S128x128 .f32 :=
  M.slice (Rect.unit (s := S16384x128) (k0_off2 L (BitVec.ofNat 32 (128 * r.val))) S128x128.size (k0_off2_inb L r)) (fun _ => rfl)

/-! ## Which elements a window has -/

theorem off1_eq : ∀ L : grid0.Coords, k0_off1 L = ![((L 0).val + 2 * (L 1).val) / 8, (((L 0).val + 2 * (L 1).val) % 8) * 512] := by decide +kernel

theorem table_rect : (Rect.unit (s := S65536x128) ![0, 0] S65536x128.size inb_S65536x128_S65536x128_0_0) = Rect.whole S65536x128 := by
  unfold Rect.unit Rect.whole
  congr 2
  funext a
  match a with
  | 0 => rfl
  | 1 => rfl

theorem set_cosTable : (tableOf cosM).view.set = Finset.univ := by
  show ((View.whole (main_arg2_scv : Ref sig .scVector)).slice _).set = _
  rw [View.set_slice_whole, table_rect]; exact Rect.set_whole _
theorem set_sinTable : (tableOf sinM).view.set = Finset.univ := by
  show ((View.whole (main_arg3_scv : Ref sig .scVector)).slice _).set = _
  rw [View.set_slice_whole, table_rect]; exact Rect.set_whole _

theorem slotsDiv : 3 ∣ S3x128x128.size 0 := ⟨1, rfl⟩
theorem slot_rect (k : Fin 3) : (Rect.unit (s := S3x128x128) ![k.val, 0, 0] S1x128x128.size (slot_inb k)) = Rect.part (a₀ := 0) slotsDiv k := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem set_slot (M : Memref sig .scVector .vmem S3x128x128 .f32) (k : Fin 3) :
    (slotOf M k).view.set = partSet (thr d L) M.view (a₀ := 0) slotsDiv k := by
  show ((M.view.slice (Rect.unit (s := S3x128x128) ![k.val, 0, 0] S1x128x128.size (slot_inb k))).reshape S128x128
    squeezes_S1x128x128_S128x128.numel_eq).set = (M.view.slice (Rect.part (a₀ := 0) slotsDiv k)).set
  rw [View.set_reshape]
  exact slot_rect k ▸ rfl

theorem partsDiv : 4 ∣ S512.size 0 := ⟨128, rfl⟩
theorem list_rect (r : Fin 4) : (Rect.unit (s := S512) ![128 * r.val] S128.size (list_inb r)) = Rect.part (a₀ := 0) partsDiv r := by
  unfold Rect.part Rect.block
  congr 1 <;> funext a
  · match a with
    | 0 => simp [Shape.partIx, Shape.partSize]; omega
  · match a with
    | 0 => simp [Shape.partSize]
theorem set_list (r : Fin 4) : (listPart r).view.set = partSet (thr d L) listM.view (a₀ := 0) partsDiv r := by
  show (listM.view.slice (Rect.unit (s := S512) ![128 * r.val] S128.size (list_inb r))).set = (listM.view.slice (Rect.part (a₀ := 0) partsDiv r)).set
  exact list_rect r ▸ rfl

theorem chunk_rect (r : Fin 4) :
    (Rect.unit (s := S16384x128) (k0_off2 L (BitVec.ofNat 32 (128 * r.val))) S128x128.size (k0_off2_inb L r)) = chunkRect (chunkE (tileNo L, r)) := by
  unfold chunkRect Rect.part Rect.block
  congr 1 <;> funext a
  · rw [k0_off2_eq]
    match a with
    | 0 => simp [Shape.partIx, Shape.partSize, chunkE_val, tileNo_val]; omega
    | 1 => simp [Shape.partIx, Shape.partSize]
  · match a with
    | 0 => simp [Shape.partSize]
    | 1 => simp [Shape.partSize]
theorem set_coChunk (r : Fin 4) : (chunkOf L coM r).view.set = chunkSet (tileNo L) r := by
  show ((View.whole (main_v0_0_scv : Ref sig .scVector)).slice _).set = _
  rw [View.set_slice_whole]
  exact chunk_rect L r ▸ rfl
theorem set_siChunk (r : Fin 4) : (chunkOf L siM r).view.set = chunkSet (tileNo L) r := by
  show ((View.whole (main_v0_1_scv : Ref sig .scVector)).slice _).set = _
  rw [View.set_slice_whole]
  exact chunk_rect L r ▸ rfl

/-! ## What a window reads as -/

theorem read_cosTable (f : Buf (Elt F) (cosLoc d)) : (tableOf cosM).view.read (Elt F) f = f := by
  funext x
  refine ((View.read_apply (v := (tableOf cosM).view) f x).trans (cast_eq _ _)).trans (congrArg f ?_)
  funext a; apply Fin.ext
  match a with
  | 0 => show 0 + 1 * (x 0).val = _; omega
  | 1 => show 0 + 1 * (x 1).val = _; omega
theorem read_sinTable (f : Buf (Elt F) (sinLoc d)) : (tableOf sinM).view.read (Elt F) f = f := by
  funext x
  refine ((View.read_apply (v := (tableOf sinM).view) f x).trans (cast_eq _ _)).trans (congrArg f ?_)
  funext a; apply Fin.ext
  match a with
  | 0 => show 0 + 1 * (x 0).val = _; omega
  | 1 => show 0 + 1 * (x 1).val = _; omega

/-- The index of a one-axis array at entry `k`. -/
def entry {n : ℕ} (k : Fin n) : (⟨1, ![n]⟩ : Shape).Idx := fun a => match a with | ⟨0, _⟩ => k

/-- Position `x` of tile `w` among all 16384. -/
def posNo (w : Fin 32) (x : Fin 512) : Fin 16384 := ⟨512 * w.val + x.val, by omega⟩
/-- Position `y` of part `r` of a tile's list. -/
def inList (r : Fin 4) (y : Fin 128) : Fin 512 := ⟨128 * r.val + y.val, by omega⟩

theorem read_posRow (f : Buf (Elt F) (posLoc d)) (x : S512.Idx) :
    (posRow L).view.read (Elt F) f x = f (posIx (posNo (tileNo L) (x 0))) := by
  refine ((View.read_apply (v := (posRow L).view) f x).trans (cast_eq _ _)).trans (congrArg f ?_)
  show (Rect.unit (s := S4x4096) (k0_off1 L) S1x512.size (k0_off1_inb L)).emb (Shape.reshapeEquiv squeezes_S1x512_S512.numel_eq x) = _
  rw [show Shape.reshapeEquiv squeezes_S1x512_S512.numel_eq x = Fin.cons ⟨0, Nat.one_pos⟩ x from Shape.reshapeEquiv_cons_one _ x]
  have hx : (x 0).val < 512 := (x 0).isLt
  have hw := tileNo_val L
  have hlt := (tileNo L).isLt
  funext a; apply Fin.ext
  match a with
  | 0 =>
    show k0_off1 L 0 + 1 * 0 = (512 * (tileNo L).val + (x 0).val) / 4096
    rw [off1_eq]
    show ((L 0).val + 2 * (L 1).val) / 8 + 1 * 0 = _
    omega
  | 1 =>
    show k0_off1 L 1 + 1 * (x 0).val = (512 * (tileNo L).val + (x 0).val) % 4096
    rw [off1_eq]
    show (((L 0).val + 2 * (L 1).val) % 8) * 512 + 1 * (x 0).val = _
    omega

/-- Part `r` of the list, once the list reads as the tile's positions. -/
theorem read_listPart (f : Buf (Elt F) ((thr d L).loc cc0_scratch0)) (g : Buf (Elt F) (posLoc d))
    (h : listM.view.read (Elt F) f = (posRow L).view.read (Elt F) g) (r : Fin 4) (y : S128.Idx) :
    (listPart r).view.read (Elt F) f y = g (posIx (posNo (tileNo L) (inList r (y 0)))) := by
  refine ((View.read_apply (v := (listPart r).view) f y).trans (cast_eq _ _)).trans ?_
  have e := (congrFun h (entry (inList r (y 0)))).trans (read_posRow d L g _)
  refine Eq.trans ?_ e
  refine Eq.trans (congrArg f ?_) ((View.read_apply (v := listM.view) f _).trans (cast_eq _ _)).symm
  funext a; apply Fin.ext
  match a with
  | 0 =>
    show 128 * r.val + 1 * (y 0).val = 128 * r.val + (y 0).val
    omega

/-- What a chunk of the first result reads as, the whole at `f`. -/
theorem read_coChunk (f : Buf (Elt F) (coLoc d)) (r : Fin 4) (y : S128x128.Idx) :
    (chunkOf L coM r).view.read (Elt F) f y = f (Shape.pair (d := ![16384, 128]) (posNo (tileNo L) (inList r (y 0))) (y 1)) := by
  refine ((View.read_apply (v := (chunkOf L coM r).view) f y).trans (cast_eq _ _)).trans (congrArg f ?_)
  have hw := tileNo_val L
  funext a; apply Fin.ext
  match a with
  | 0 =>
    show k0_off2 L (BitVec.ofNat 32 (128 * r.val)) 0 + 1 * (y 0).val = 512 * (tileNo L).val + (128 * r.val + (y 0).val)
    rw [k0_off2_eq]
    show 1024 * (L 1).val + 512 * (L 0).val + 128 * r.val + 1 * (y 0).val = _
    omega
  | 1 =>
    show k0_off2 L (BitVec.ofNat 32 (128 * r.val)) 1 + 1 * (y 1).val = (y 1).val
    rw [k0_off2_eq]
    show 0 + 1 * (y 1).val = _
    omega
theorem read_siChunk (f : Buf (Elt F) (siLoc d)) (r : Fin 4) (y : S128x128.Idx) :
    (chunkOf L siM r).view.read (Elt F) f y = f (Shape.pair (d := ![16384, 128]) (posNo (tileNo L) (inList r (y 0))) (y 1)) :=
  read_coChunk d L f r y

/-! ## What a gather fetches -/

/-- A gather along the rows fetches, for each entry of its list, the row of the table the entry names. -/
theorem payload_apply {e : EltTy} (tbl : S65536x128.Idx → Elt F e) (l : S128.Idx → Elt F .i32) (h : ∀ x, (l x).toNat < 65536) (y : S128x128.Idx) :
    SparseCore.gatherPayload (F := F) gathers_S65536x128_S128x128 tbl (SparseCore.rows (F := F) l (rfl : S128.numel = 128) h) y
      = tbl (Shape.pair (d := ![65536, 128]) ⟨(l (entry (n := 128) (y 0))).toNat, h _⟩ (y 1)) := by
  unfold SparseCore.gatherPayload
  refine congrArg tbl ?_
  have hl : (S128.rowMajor.symm ((y 0).cast rfl)) = (entry (n := 128) (y 0) : S128.Idx) := by
    rw [Equiv.symm_apply_eq]
    exact Fin.ext (Shape.rowMajor_val_one (d := ![128]) (entry (n := 128) (y 0))).symm
  funext a; apply Fin.ext
  match a with
  | 0 =>
    refine (congrArg Fin.val (Shape.Gathers.idx_axis gathers_S65536x128_S128x128 _ y)).trans ?_
    show (l (S128.rowMajor.symm ((y 0).cast _))).toNat = (l (entry (n := 128) (y 0))).toNat
    exact congrArg (fun z => (l z).toNat) hl
  | 1 => exact Shape.Gathers.idx_of_ne gathers_S65536x128_S128x128 _ y 1 (by decide)

variable {m}

/-- Every entry of the list is a row of the tables. -/
theorem list_lt (hpre : PreOK m) (f : Buf (Elt F) ((thr d L).loc cc0_scratch0))
    (h : listM.view.read (Elt F) f = (posRow L).view.read (Elt F) (m (posLoc d))) (r : Fin 4) (y : S128.Idx) :
    ((listPart r).view.read (Elt F) f y).toNat < 65536 := by
  rw [read_listPart d L f (m (posLoc d)) h r y]
  exact hpre d _

/-- The rows fetched for part `r` of the list are those the rows taken have in chunk `r`. -/
theorem payload_taken (hpre : PreOK m) (f : Buf (Elt F) ((thr d L).loc cc0_scratch0))
    (h : listM.view.read (Elt F) f = (posRow L).view.read (Elt F) (m (posLoc d))) (tbl : S65536x128.Idx → Elt F .f32) (r : Fin 4) :
    SparseCore.gatherPayload (F := F) gathers_S65536x128_S128x128 tbl
        (SparseCore.rows (F := F) ((listPart r).view.read (Elt F) f) (rfl : S128.numel = 128) (list_lt d L hpre f h r))
      = (chunkOf L coM r).view.read (Elt F) (taken (F := F) (e := .f32) (m (posLoc d)) tbl) := by
  funext y
  rw [payload_apply, read_coChunk d]
  unfold taken
  refine congrArg tbl (congrArg (fun z => Shape.pair (d := ![65536, 128]) z (y 1)) (Fin.ext ?_))
  show ((listPart r).view.read (Elt F) f (entry (n := 128) (y 0))).toNat = _ % 65536
  rw [read_listPart d L f (m (posLoc d)) h r (entry (n := 128) (y 0))]
  exact (Nat.mod_eq_of_lt (hpre d _)).symm

end Cert.Proof.OfKernelIdeal

end
-- ==== Proof.HoldingsIdeal.lean ====
/-
  The same module for the kernel read over the extended reals; Holdings.lean with the namespaces replaced.

  What a tile holds, in the shape its copies take it: its semaphores, its three scratch buffers, the slots of the row
  buffers, the parts of the list, and its shares of the tables, each written out one by one.
-/
module

public import proofs.«01_k».proof.Proof.WindowsIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Steps

variable {F : FTy → Type}

local notation "𝕄" => MT nD τ sig (HIx 1) (Elt F) ℕ UU ℕ

variable (m : (ℓ : Loc nD τ sig) → Buf (Elt F) ℓ) (d : Dev nD) (L : grid0.Coords)

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The semaphores -/

/-- The tile's DMA semaphore `k`, at zero. -/
abbrev dmaZero (k : DmaSem sig) : sProp 𝕄 := semVal (thr d L, SemLoc.dma k) 0

/-- The tile's thirteen DMA semaphores, all at zero: three for the gathers from each table, three for the copies out to
    each result, and one for the copy of the positions. -/
abbrev semsZero : sProp 𝕄 :=
  iprop(dmaZero d L cc0_scratch3.sem ∗ dmaZero d L cc0_scratch4.sem ∗ dmaZero d L cc0_scratch5.sem
    ∗ dmaZero d L cc0_scratch6.sem ∗ dmaZero d L cc0_scratch7.sem ∗ dmaZero d L cc0_scratch8.sem
    ∗ dmaZero d L cc0_scratch9.sem ∗ dmaZero d L cc0_scratch10.sem ∗ dmaZero d L cc0_scratch11.sem
    ∗ dmaZero d L cc0_scratch12.sem ∗ dmaZero d L cc0_scratch13.sem ∗ dmaZero d L cc0_scratch14.sem
    ∗ dmaZero d L cc0_scoped0.sem)

/-- The tile's DMA semaphores, as cells. -/
abbrev dmaCells : Finset (GSem nD τ sig) := (Finset.univ : Finset (Fin 13)).image fun k => (thr d L, SemLoc.dma k)

theorem dmaCells_own : dmaCells d L ⊆ ownCells (thr d L) := by
  intro g hg
  obtain ⟨k, -, rfl⟩ := Finset.mem_image.mp hg
  exact mem_ownCells.mpr ⟨rfl, (show ∀ k : Fin 13, (SemLoc.dma k : SemLoc sig).isScoped .scVector = true by decide) k⟩

/-- The semaphores a tile owns are its DMA semaphores and the rest. -/
theorem ownSems_eq :
    (ownSems0 (thr d L) : sProp 𝕄) = iprop(semsZero d L ∗ bigSep (ownCells (thr d L) \ dmaCells d L) fun g => semVal g 0) := by
  unfold SparseCore.Cfg.ownSems0
  rw [SparseCore.bigSep_sdiff_split' (dmaCells_own d L)]
  refine congrArg (fun A : sProp 𝕄 => iprop(A ∗ bigSep (ownCells (thr d L) \ dmaCells d L) fun g => semVal g 0)) ?_
  rw [SparseCore.bigSep_image_of_injOn (f := fun k : Fin 13 => ((thr d L, SemLoc.dma k) : GSem nD τ sig))
      (fun a _ b _ h => SemLoc.dma.inj (Prod.mk.inj h).2),
    show (Finset.univ : Finset (Fin 13)) = {0, 1, 2, 3, 4, 5, 6, 7, 8, 9, 10, 11, 12} by decide]
  repeat rw [SparseCore.bigSep_insert' (by decide)]
  rw [bigSep_singleton]
  rfl

/-! ## The scratch buffers -/

/-- The other buffers a tile owns. -/
abbrev otherBufs : Finset (DevRef τ sig) :=
  (((ownRefs (τ := τ) (.scVector (coreOf L) (subOf L))).erase ((Proc.scVector (coreOf L) (subOf L)).devRef cc0_scratch0)).erase
    ((Proc.scVector (coreOf L) (subOf L)).devRef cc0_scratch1)).erase ((Proc.scVector (coreOf L) (subOf L)).devRef cc0_scratch2)

/-- The buffers a tile owns are its list, its two row buffers, and the rest. -/
theorem ownBufs_eq :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep (otherBufs L) fun b => iprop(∃ f, ((d, b) : Loc nD τ sig) ↦{fullShare} f)) := by
  have ne {a b : Ref sig .scVector} (h : a ≠ b) : (Proc.scVector (coreOf L) (subOf L)).devRef a ≠ (Proc.scVector (coreOf L) (subOf L)).devRef b :=
    fun e => h (Proc.devRef_injective _ e)
  unfold SparseCore.Cfg.ownBufs
  refine (SparseCore.bigSep_erase' (SparseCore.Cfg.mem_ownRefs_of_owner (p := Proc.scVector (coreOf L) (subOf L))
    (b := (Proc.scVector (coreOf L) (subOf L)).devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := Proc.scVector (coreOf L) (subOf L)) (b := (Proc.scVector (coreOf L) (subOf L)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
      SparseCore.Cfg.mem_ownRefs_of_owner (p := Proc.scVector (coreOf L) (subOf L)) (b := (Proc.scVector (coreOf L) (subOf L)).devRef cc0_scratch2) rfl⟩⟩)]

/-- A row buffer held whole is its three slots, each holding something; -/
theorem slots_cut (M : Memref sig .scVector .vmem S3x128x128 .f32) (f : Buf (Elt F) (M.view.loc (thr d L))) :
    (M.view.loc (thr d L) ↦[M.view.set]{fullShare} f : sProp 𝕄)
      ⊢ iprop(Some' (thr d L) (slotOf M 0) ∗ Some' (thr d L) (slotOf M 1) ∗ Some' (thr d L) (slotOf M 2)) := by
  rw [window_cut (thr d L) M.view (a₀ := 0) slotsDiv, bigSep_three, ← set_slot d L M 0, ← set_slot d L M 1, ← set_slot d L M 2]
  unfold Some'
  iintro ⟨H0, H1, H2⟩
  isplitl [H0]; · iexists f; iexact H0
  isplitl [H1]; · iexists f; iexact H1
  iexists f; iexact H2

/-- and back. -/
theorem slots_join (M : Memref sig .scVector .vmem S3x128x128 .f32) [Nonempty (Buf (Elt F) (M.view.loc (thr d L)))] :
    iprop(Some' (thr d L) (slotOf M 0) ∗ Some' (thr d L) (slotOf M 1) ∗ Some' (thr d L) (slotOf M 2))
      ⊢ (iprop(∃ f, M.view.loc (thr d L) ↦[M.view.set]{fullShare} f) : sProp 𝕄) := by
  refine BIBase.Entails.trans ?_ (window_join (thr d L) M.view (a₀ := 0) slotsDiv fullShare)
  rw [bigSep_three, ← set_slot d L M 0, ← set_slot d L M 1, ← set_slot d L M 2]
  unfold Some'
  exact BIBase.Entails.rfl

/-- Part `r` of the list at share `q`, the list's contents `f`. -/
abbrev partPts (q : PosShare TreeShare) (f : Buf (Elt F) ((thr d L).loc cc0_scratch0)) (r : Fin 4) : sProp 𝕄 :=
  (listPart r).view.loc (thr d L) ↦[(listPart r).view.set]{q} f
/-- Part `r` of the list in two halves, one for each table's gather. -/
abbrev partHalves (f : Buf (Elt F) ((thr d L).loc cc0_scratch0)) (r : Fin 4) : sProp 𝕄 :=
  iprop(partPts d L fullShare.left f r ∗ partPts d L fullShare.right f r)

/-- The list held whole is its four parts, each in two halves. -/
theorem list_cut (f : Buf (Elt F) ((thr d L).loc cc0_scratch0)) :
    (listM.view.loc (thr d L) ↦[listM.view.set]{fullShare} f : sProp 𝕄)
      = iprop(partHalves d L f 0 ∗ partHalves d L f 1 ∗ partHalves d L f 2 ∗ partHalves d L f 3) := by
  have half (r : Fin 4) : (partHalves d L f r : sProp 𝕄) = partPts d L fullShare f r :=
    (BI.Entails.antisymm (pointsTo_share (PosShare.mem_left_op_right fullShare)).1 (pointsTo_share (PosShare.mem_left_op_right fullShare)).2).symm
  rw [half 0, half 1, half 2, half 3]
  unfold partPts
  rw [window_cut (thr d L) listM.view (a₀ := 0) partsDiv, bigSep_four, ← set_list d L 0, ← set_list d L 1, ← set_list d L 2, ← set_list d L 3]

/-! ## The shares of the tables -/

/-- A third of a share, one for each slot. -/
abbrev third (q : PosShare TreeShare) (k : Fin 3) : PosShare TreeShare := Idealize.ShloMosaic.pieceOf q 3 (by decide) k

abbrev cosPts (q : PosShare TreeShare) (k : Fin 3) : sProp 𝕄 :=
  (tableOf cosM).view.loc (thr d L) ↦[(tableOf cosM).view.set]{third q k} m (cosLoc d)
abbrev sinPts (q : PosShare TreeShare) (k : Fin 3) : sProp 𝕄 :=
  (tableOf sinM).view.loc (thr d L) ↦[(tableOf sinM).view.set]{third q k} m (sinLoc d)

theorem cos_cut (w : Fin 32) :
    (cosSh m d w : sProp 𝕄) = iprop(cosPts m d L (shareOf w) 0 ∗ cosPts m d L (shareOf w) 1 ∗ cosPts m d L (shareOf w) 2) := by
  unfold cosSh cosPts
  rw [Idealize.ShloMosaic.pointsTo_piecesOf Finset.univ (m (cosLoc d)) (show 0 < 3 by decide) (shareOf w), bigSep_three, set_cosTable]
theorem sin_cut (w : Fin 32) :
    (sinSh m d w : sProp 𝕄) = iprop(sinPts m d L (shareOf w) 0 ∗ sinPts m d L (shareOf w) 1 ∗ sinPts m d L (shareOf w) 2) := by
  unfold sinSh sinPts
  rw [Idealize.ShloMosaic.pointsTo_piecesOf Finset.univ (m (sinLoc d)) (show 0 < 3 by decide) (shareOf w), bigSep_three, set_sinTable]

/-- The tile's positions, out of its share of all of them. -/
abbrev posPts (q : PosShare TreeShare) : sProp 𝕄 :=
  (posRow L).view.loc (thr d L) ↦[(posRow L).view.set]{q} m (posLoc d)
theorem pos_cut (w : Fin 32) :
    (posSh m d w : sProp 𝕄) = iprop(posPts m d L (shareOf w) ∗ posLoc d ↦[Finset.univ \ (posRow L).view.set]{shareOf w} m (posLoc d)) :=
  BI.Entails.antisymm (pointsTo_split_subset (Finset.subset_univ _)).1 (pointsTo_split_subset (Finset.subset_univ _)).2

/-! ## The chunks of the results -/

abbrev coPts (f : Buf (Elt F) (coLoc d)) (r : Fin 4) : sProp 𝕄 :=
  (chunkOf L coM r).view.loc (thr d L) ↦[(chunkOf L coM r).view.set]{fullShare} f
abbrev siPts (f : Buf (Elt F) (siLoc d)) (r : Fin 4) : sProp 𝕄 :=
  (chunkOf L siM r).view.loc (thr d L) ↦[(chunkOf L siM r).view.set]{fullShare} f

theorem co_cut (f : Buf (Elt F) (coLoc d)) :
    (bigSep Finset.univ (coChunk d (tileNo L) f) : sProp 𝕄) = iprop(coPts d L f 0 ∗ coPts d L f 1 ∗ coPts d L f 2 ∗ coPts d L f 3) := by
  unfold coPts
  rw [bigSep_four, set_coChunk, set_coChunk, set_coChunk, set_coChunk]
theorem si_cut (f : Buf (Elt F) (siLoc d)) :
    (bigSep Finset.univ (siChunk d (tileNo L) f) : sProp 𝕄) = iprop(siPts d L f 0 ∗ siPts d L f 1 ∗ siPts d L f 2 ∗ siPts d L f 3) := by
  unfold siPts
  rw [bigSep_four, set_siChunk, set_siChunk, set_siChunk, set_siChunk]

end Cert.Proof.OfKernelIdeal

end
-- ==== Proof.TileIdeal.lean ====
/-
  The same module for the kernel read over the extended reals; Tile.lean with the namespaces replaced.

  The task of one tile. It copies its 512 positions in, then works through four chunks of 128 positions on three slots:
  a gather from each table into a slot, a copy of the slot out to each result, and slot 0 again for the fourth chunk once
  the first has left it. This module states each kind of step on the tile's own windows and runs the body by them.
-/
module

public import proofs.«01_k».proof.Proof.HoldingsIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Steps

variable {F : FTy → Type}

local notation "𝕄" => MT nD τ sig (HIx 1) (Elt F) ℕ UU ℕ

variable {m : (ℓ : Loc nD τ sig) → Buf (Elt F) ℓ} (d : Dev nD) (L : grid0.Coords)

/-! ## The copies in flight -/

/-- A copy of the tile's in flight on its DMA semaphore `k`, of `N` units, that delivers `R`. -/
abbrev Fly (k : DmaSem sig) (N : ℕ) (R : sProp 𝕄) : sProp 𝕄 := Transfers.Flight countersEmb (thr d L) (.dma k) (default : HIx 1) N R

/-- The rows of the first table that belong in chunk `r`, and of the second. -/
abbrev coRows (m : (ℓ : Loc nD τ sig) → Buf (Elt F) ℓ) (r : Fin 4) : S128x128.Idx → Elt F .f32 :=
  (chunkOf L coM r).view.read (Elt F) (coGoal m d)
abbrev siRows (m : (ℓ : Loc nD τ sig) → Buf (Elt F) ℓ) (r : Fin 4) : S128x128.Idx → Elt F .f32 :=
  (chunkOf L siM r).view.read (Elt F) (siGoal m d)

/-- What a gather for chunk `r` into slot `k` delivers: the slot with the chunk's rows, the share of the table, and the
    part of the list. -/
abbrev coGot (m : (ℓ : Loc nD τ sig) → Buf (Elt F) ℓ) (f : Buf (Elt F) ((thr d L).loc cc0_scratch0)) (k : Fin 3) (r : Fin 4) : sProp 𝕄 :=
  iprop(Reads (thr d L) (slotOf cbufM k) (coRows d L m r) ∗ cosPts m d L (shareOf (tileNo L)) k ∗ partPts d L fullShare.left f r)
abbrev siGot (m : (ℓ : Loc nD τ sig) → Buf (Elt F) ℓ) (f : Buf (Elt F) ((thr d L).loc cc0_scratch0)) (k : Fin 3) (r : Fin 4) : sProp 𝕄 :=
  iprop(Reads (thr d L) (slotOf sbufM k) (siRows d L m r) ∗ sinPts m d L (shareOf (tileNo L)) k ∗ partPts d L fullShare.right f r)

/-- What the copy of slot `k` out to chunk `r` delivers: the chunk as it should be, and the slot. -/
abbrev coOut (m : (ℓ : Loc nD τ sig) → Buf (Elt F) ℓ) (k : Fin 3) (r : Fin 4) : sProp 𝕄 :=
  iprop(coPts d L (coGoal m d) r ∗ Some' (thr d L) (slotOf cbufM k))
abbrev siOut (m : (ℓ : Loc nD τ sig) → Buf (Elt F) ℓ) (k : Fin 3) (r : Fin 4) : sProp 𝕄 :=
  iprop(siPts d L (siGoal m d) r ∗ Some' (thr d L) (slotOf sbufM k))

variable [FloatOps F]

/-! ## The steps -/

section Steps

variable (f : Buf (Elt F) ((thr d L).loc cc0_scratch0)) (k : Fin 3) (r : Fin 4) {sem : DmaSem sig}

/-- The gather of chunk `r` from the first table into slot `k`. -/
theorem co_gather (hpre : PreOK m) (h : listM.view.read (Elt F) f = (posRow L).view.read (Elt F) (m (posLoc d)))
    {hs} {hb} {hsp} {hr} {Q : PUnit → sProp 𝕄} :
    cosPts m d L (shareOf (tileNo L)) k
      ⊢ Some' (thr d L) (slotOf cbufM k) -∗ partPts d L fullShare.left f r -∗ dmaZero d L sem
      -∗ (Fly d L sem (slotOf cbufM k).view.dmaCredit (coGot d L m f k r) -∗ Q ⟨⟩)
      -∗ wp frame (wpE (defs₀ (F := F)) 𝒱₀ (thr d L) none) Set.univ
          (SparseCore.enqueueIndirectGather rfl (tableOf cosM) (slotOf cbufM k) gathers_S65536x128_S128x128 (listPart r) rfl sem hs hb hsp hr) Q := by
  iintro Ht Hs Hl Hv Hk
  iapply (gather_start countersEmb 𝒱₀ (thr d L) none (default : HIx 1) (g := coRows d L m r)
      (SparseCore.sum_rowCredit_eq_dmaCredit _ _ fun _ => rfl) (by decide) (list_lt d L hpre f h r) (by
        rw [read_cosTable d]
        exact payload_taken d L hpre f h (m (cosLoc d)) r)) $$ [Ht Hs Hl Hv]
  · isplitl [Ht]; · iexact Ht
    isplitl [Hs]; · iexact Hs
    isplitl [Hl]; · iexact Hl
    iexact Hv
  iexact Hk

/-- The gather of chunk `r` from the second table into slot `k`. -/
theorem si_gather (hpre : PreOK m) (h : listM.view.read (Elt F) f = (posRow L).view.read (Elt F) (m (posLoc d)))
    {hs} {hb} {hsp} {hr} {Q : PUnit → sProp 𝕄} :
    sinPts m d L (shareOf (tileNo L)) k
      ⊢ Some' (thr d L) (slotOf sbufM k) -∗ partPts d L fullShare.right f r -∗ dmaZero d L sem
      -∗ (Fly d L sem (slotOf sbufM k).view.dmaCredit (siGot d L m f k r) -∗ Q ⟨⟩)
      -∗ wp frame (wpE (defs₀ (F := F)) 𝒱₀ (thr d L) none) Set.univ
          (SparseCore.enqueueIndirectGather rfl (tableOf sinM) (slotOf sbufM k) gathers_S65536x128_S128x128 (listPart r) rfl sem hs hb hsp hr) Q := by
  iintro Ht Hs Hl Hv Hk
  iapply (gather_start countersEmb 𝒱₀ (thr d L) none (default : HIx 1) (g := siRows d L m r)
      (SparseCore.sum_rowCredit_eq_dmaCredit _ _ fun _ => rfl) (by decide) (list_lt d L hpre f h r) (by
        rw [read_sinTable d]
        exact payload_taken d L hpre f h (m (sinLoc d)) r)) $$ [Ht Hs Hl Hv]
  · isplitl [Ht]; · iexact Ht
    isplitl [Hs]; · iexact Hs
    isplitl [Hl]; · iexact Hl
    iexact Hv
  iexact Hk

/-- The copy of slot `k` out to chunk `r` of the first result. -/
theorem co_write (g : Buf (Elt F) (coLoc d)) {hs} {hd} {ht} {Q : PUnit → sProp 𝕄} :
    Reads (thr d L) (slotOf cbufM k) (coRows d L m r)
      ⊢ coPts d L g r -∗ dmaZero d L sem
      -∗ (Fly d L sem (chunkOf L coM r).view.dmaCredit (coOut d L m k r) -∗ Q ⟨⟩)
      -∗ wp frame (wpE (defs₀ (F := F)) 𝒱₀ (thr d L) none) Set.univ
          (Prog.lift (.enqueueDma (slotOf cbufM k) (.here (chunkOf L coM r)) (.dma sem) hs hd ht)) Q := by
  iintro Hs Hc Hv Hk
  iapply (writeOut_start countersEmb 𝒱₀ (thr d L) none (default : HIx 1) (goal := coGoal m d) (by exact (show 0 < S128x128.numel * 32 by decide)) rfl) $$ [Hs Hc Hv]
  · isplitl [Hs]; · iexact Hs
    isplitl [Hc]; · iexact Hc
    iexact Hv
  iexact Hk

/-- The copy of slot `k` out to chunk `r` of the second result. -/
theorem si_write (g : Buf (Elt F) (siLoc d)) {hs} {hd} {ht} {Q : PUnit → sProp 𝕄} :
    Reads (thr d L) (slotOf sbufM k) (siRows d L m r)
      ⊢ siPts d L g r -∗ dmaZero d L sem
      -∗ (Fly d L sem (chunkOf L siM r).view.dmaCredit (siOut d L m k r) -∗ Q ⟨⟩)
      -∗ wp frame (wpE (defs₀ (F := F)) 𝒱₀ (thr d L) none) Set.univ
          (Prog.lift (.enqueueDma (slotOf sbufM k) (.here (chunkOf L siM r)) (.dma sem) hs hd ht)) Q := by
  iintro Hs Hc Hv Hk
  iapply (writeOut_start countersEmb 𝒱₀ (thr d L) none (default : HIx 1) (goal := siGoal m d) (by exact (show 0 < S128x128.numel * 32 by decide)) rfl) $$ [Hs Hc Hv]
  · isplitl [Hs]; · iexact Hs
    isplitl [Hc]; · iexact Hc
    iexact Hv
  iexact Hk

/-- The copy of the tile's positions into its list. -/
theorem pos_read (q : PosShare TreeShare) {hs} {hd} {ht} {Q : PUnit → sProp 𝕄} :
    posPts m d L q
      ⊢ Some' (thr d L) listM -∗ dmaZero d L sem
      -∗ (Fly d L sem listM.view.dmaCredit iprop(Reads (thr d L) listM ((posRow L).view.read (Elt F) (m (posLoc d))) ∗ posPts m d L q) -∗ Q ⟨⟩)
      -∗ wp frame (wpE (defs₀ (F := F)) 𝒱₀ (thr d L) none) Set.univ
          (Prog.lift (.enqueueDma (posRow L) (.here listM) (.dma sem) hs hd ht)) Q := by
  iintro Hp Hl Hv Hk
  iapply (readIn_start countersEmb 𝒱₀ (thr d L) none (default : HIx 1) (by exact (show 0 < S512.numel * 32 by decide))) $$ [Hp Hl Hv]
  · isplitl [Hp]; · iexact Hp
    isplitl [Hl]; · iexact Hl
    iexact Hv
  iexact Hk

variable {O : CellTallies nD τ sig (HIx 1)} {W : Waits sig (HIx 1)} {N : ℕ} {sp sp' : Space} {s s' : Shape} {e e' : EltTy}

/-- The wait for a copy in flight, -/
theorem await {src : Memref sig .scVector sp' s' e'} {dst : Memref sig .scVector sp s e} {hs} {hd} {Q : PUnit → sProp 𝕄} {R : sProp 𝕄} (hN : dst.view.dmaCredit = N) :
    Transfers.MayWaits (thr d L) (default : HIx 1) O
      ⊢ Fly d L sem N R -∗ Owing (thr d L) O W (default : HIx 1)
      -∗ (iprop(R ∗ dmaZero d L sem ∗ Owing (thr d L) O W (default : HIx 1)) -∗ Q ⟨⟩)
      -∗ wp frame (wpE (defs₀ (F := F)) 𝒱₀ (thr d L) none) Set.univ (Prog.lift (.waitDma2 sem src dst hs hd)) Q := by
  iintro Hm Hf HO Hk
  iapply (copy_wait countersEmb 𝒱₀ (thr d L) none (default : HIx 1) hN) $$ [Hm Hf HO]
  · isplitl [Hm]; · iexact Hm
    isplitl [Hf]; · iexact Hf
    iexact HO
  iexact Hk

/-- and the same for a gather in flight. -/
theorem await_gather {src : Memref sig .scVector sp' s' e'} {dst : Memref sig .scVector .vmem s e} {hs} {hd} {Q : PUnit → sProp 𝕄} {R : sProp 𝕄} (hN : dst.view.dmaCredit = N) :
    Transfers.MayWaits (thr d L) (default : HIx 1) O
      ⊢ Fly d L sem N R -∗ Owing (thr d L) O W (default : HIx 1)
      -∗ (iprop(R ∗ dmaZero d L sem ∗ Owing (thr d L) O W (default : HIx 1)) -∗ Q ⟨⟩)
      -∗ wp frame (wpE (defs₀ (F := F)) 𝒱₀ (thr d L) none) Set.univ (SparseCore.waitIndirectGather sem src dst hs hd) Q := by
  iintro Hm Hf HO Hk
  iapply (gather_wait countersEmb 𝒱₀ (thr d L) none (default : HIx 1) hN) $$ [Hm Hf HO]
  · isplitl [Hm]; · iexact Hm
    isplitl [Hf]; · iexact Hf
    iexact HO
  iexact Hk

end Steps

/-! ## The body -/

/-- What one tile's task asks and gives, with what the launch hands every task. -/
abbrev taskPre (m : (ℓ : Loc nD τ sig) → Buf (Elt F) ℓ) (O : CellTallies nD τ sig (HIx 1)) (W : Waits sig (HIx 1)) : sProp 𝕄 :=
  iprop(levAts (K (F := F)).L (K (F := F)).lev ∗ emp ∗ tileRes m d (m (coLoc d)) (m (siLoc d)) (tileNo L)
    ∗ scopedBufs (thr d L) ∗ scopedSems0 (thr d L) ∗ owes (thr d L) O W)
abbrev taskPost (m : (ℓ : Loc nD τ sig) → Buf (Elt F) ℓ) (O : CellTallies nD τ sig (HIx 1)) (W : Waits sig (HIx 1)) : sProp 𝕄 :=
  iprop(tileRes m d (coGoal m d) (siGoal m d) (tileNo L)
    ∗ scopedBufs (thr d L) ∗ scopedSems0 (thr d L) ∗ ∃ W', ⌜∀ p ∈ W', p ∈ W ∨ p.2 = none⌝ ∗ owes (thr d L) O W')

set_option maxHeartbeats 8000000 in
set_option maxRecDepth 16384 in
/-- The task of the tile at grid point `L`: from its pieces at the launch contents to its pieces at the rows taken. -/
theorem tile_body (hpre : PreOK m) (O : CellTallies nD τ sig (HIx 1)) (W : Waits sig (HIx 1)) (hO : ∀ g, O g none = 0) :
    taskPre d L m O W
      ⊢ wp frame (wpE (defs₀ (F := F)) 𝒱₀ (thr d L) none) Set.univ
          (cc0__gather_body L posM (Memref.isWhole_whole _) cosM (Memref.isWhole_whole _) sinM (Memref.isWhole_whole _)
            coM (Memref.isWhole_whole _) siM (Memref.isWhole_whole _) listM (Memref.isWhole_whole _) cbufM (Memref.isWhole_whole _)
            sbufM (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scoped0)
          fun _ => taskPost d L m O W := by
  unfold taskPre taskPost
  simp only [cc0__gather_body_eq_skeleton]
  unfold cc0__gather_body_skel
  simp only [k0_part8_eq_skeleton]
  unfold k0_part8_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [wp_bind, wp_pure]
  unfold tileRes
  rw [(K (F := F)).scopedBufs_V facts d (coreOf L) (subOf L), SparseCore.Cfg.scopedSems0_V (Val := Elt F) d (coreOf L) (subOf L), ownSems_eq, ownBufs_eq,
    cos_cut m d L, sin_cut m d L, pos_cut m d L, co_cut d L, si_cut d L, co_cut d L, si_cut d L]
  iintro ⟨#Hlv, -, ⟨⟨Hpos, Hrest⟩, ⟨Tc0, Tc1, Tc2⟩, ⟨Ts0, Ts1, Ts2⟩, ⟨Oc0, Oc1, Oc2, Oc3⟩, ⟨Os0, Os1, Os2, Os3⟩⟩,
    ⟨⟨%fl, Hl⟩, ⟨%fc, Hc⟩, ⟨%fs, Hs⟩, Hbufs⟩, ⟨⟨G0, G1, G2, E0, E1, E2, A0, A1, A2, B0, B1, B2, Vp⟩, Hsems⟩, HO⟩
  have hsetL : listM.view.set = Finset.univ := View.set_whole _
  have hsetC : cbufM.view.set = Finset.univ := View.set_whole _
  have hsetS : sbufM.view.set = Finset.univ := View.set_whole _
  ihave #Hmw := (show levAts (K (F := F)).L (K (F := F)).lev ⊢ Transfers.MayWaits (thr d L) (default : HIx 1) O from
    (K (F := F)).mayWaits_none (thr := thr d L) hO) $$ Hlv
  ihave HO := (Owing.intro (thr d L) O W (default : HIx 1)) $$ HO
  ihave Hl := (show ((thr d L).loc cc0_scratch0 ↦{fullShare} fl : sProp 𝕄) ⊢ Some' (thr d L) listM by
    unfold Some'; rw [hsetL]; iintro H; iexists fl; iexact H) $$ Hl
  ihave Hc := (show ((thr d L).loc cc0_scratch1 ↦{fullShare} fc : sProp 𝕄) ⊢ cbufM.view.loc (thr d L) ↦[cbufM.view.set]{fullShare} fc by
    rw [hsetC]) $$ Hc
  ihave Hc := (slots_cut d L cbufM fc) $$ Hc
  icases Hc with ⟨C0, C1, C2⟩
  ihave Hs := (show ((thr d L).loc cc0_scratch2 ↦{fullShare} fs : sProp 𝕄) ⊢ sbufM.view.loc (thr d L) ↦[sbufM.view.set]{fullShare} fs by
    rw [hsetS]) $$ Hs
  ihave Hs := (slots_cut d L sbufM fs) $$ Hs
  icases Hs with ⟨S0, S1, S2⟩
  -- the positions come in
  iapply (pos_read d L (shareOf (tileNo L))) $$ Hpos Hl Vp
  iintro Hf
  iapply (await d L rfl) $$ Hmw Hf HO
  iintro ⟨⟨Hl, Hpos⟩, Vp, HO⟩
  try imodintro
  unfold Reads
  icases Hl with ⟨%f, %hf, Hl⟩
  ihave Hl := (Entails.of_eq (list_cut d L f)) $$ Hl
  icases Hl with ⟨⟨Lc0, Ls0⟩, ⟨Lc1, Ls1⟩, ⟨Lc2, Ls2⟩, ⟨Lc3, Ls3⟩⟩
  -- a gather from each table into every slot
  iapply (co_gather d L f 0 0 hpre hf) $$ Tc0 C0 Lc0 G0
  iintro Fc0
  iapply (si_gather d L f 0 0 hpre hf) $$ Ts0 S0 Ls0 E0
  iintro Fs0
  iapply (co_gather d L f 1 1 hpre hf) $$ Tc1 C1 Lc1 G1
  iintro Fc1
  iapply (si_gather d L f 1 1 hpre hf) $$ Ts1 S1 Ls1 E1
  iintro Fs1
  iapply (co_gather d L f 2 2 hpre hf) $$ Tc2 C2 Lc2 G2
  iintro Fc2
  try imodintro
  iapply (si_gather d L f 2 2 hpre hf) $$ Ts2 S2 Ls2 E2
  iintro Fs2
  -- slot 0 to chunk 0, and slot 0 filled again for chunk 3
  iapply (await_gather d L rfl) $$ Hmw Fc0 HO
  iintro ⟨⟨C0, Tc0, Lc0⟩, G0, HO⟩
  iapply (await_gather d L rfl) $$ Hmw Fs0 HO
  iintro ⟨⟨S0, Ts0, Ls0⟩, E0, HO⟩
  iapply (co_write d L 0 0 _) $$ C0 Oc0 A0
  iintro Fc0
  iapply (si_write d L 0 0 _) $$ S0 Os0 B0
  iintro Fs0
  try imodintro
  iapply (await d L rfl) $$ Hmw Fc0 HO
  iintro ⟨⟨Oc0, C0⟩, A0, HO⟩
  iapply (await d L rfl) $$ Hmw Fs0 HO
  iintro ⟨⟨Os0, S0⟩, B0, HO⟩
  iapply (co_gather d L f 0 3 hpre hf) $$ Tc0 C0 Lc3 G0
  iintro Fc0
  iapply (si_gather d L f 0 3 hpre hf) $$ Ts0 S0 Ls3 E0
  iintro Fs0
  -- slot 1 to chunk 1, slot 2 to chunk 2
  iapply (await_gather d L rfl) $$ Hmw Fc1 HO
  iintro ⟨⟨C1, Tc1, Lc1⟩, G1, HO⟩
  try imodintro
  iapply (await_gather d L rfl) $$ Hmw Fs1 HO
  iintro ⟨⟨S1, Ts1, Ls1⟩, E1, HO⟩
  iapply (co_write d L 1 1 _) $$ C1 Oc1 A1
  iintro Fc1
  iapply (si_write d L 1 1 _) $$ S1 Os1 B1
  iintro Fs1
  iapply (await_gather d L rfl) $$ Hmw Fc2 HO
  iintro ⟨⟨C2, Tc2, Lc2⟩, G2, HO⟩
  try imodintro
  iapply (await_gather d L rfl) $$ Hmw Fs2 HO
  iintro ⟨⟨S2, Ts2, Ls2⟩, E2, HO⟩
  iapply (co_write d L 2 2 _) $$ C2 Oc2 A2
  iintro Fc2
  iapply (si_write d L 2 2 _) $$ S2 Os2 B2
  iintro Fs2
  -- slot 0 to chunk 3, and what is still in flight
  iapply (await_gather d L rfl) $$ Hmw Fc0 HO
  iintro ⟨⟨C0, Tc0, Lc3⟩, G0, HO⟩
  iapply (await_gather d L rfl) $$ Hmw Fs0 HO
  iintro ⟨⟨S0, Ts0, Ls3⟩, E0, HO⟩
  try imodintro
  iapply (co_write d L 0 3 _) $$ C0 Oc3 A0
  iintro Fc0
  iapply (si_write d L 0 3 _) $$ S0 Os3 B0
  iintro Fs0
  iapply (await d L rfl) $$ Hmw Fc1 HO
  iintro ⟨⟨Oc1, C1⟩, A1, HO⟩
  iapply (await d L rfl) $$ Hmw Fs1 HO
  iintro ⟨⟨Os1, S1⟩, B1, HO⟩
  try imodintro
  iapply (await d L rfl) $$ Hmw Fc2 HO
  iintro ⟨⟨Oc2, C2⟩, A2, HO⟩
  iapply (await d L rfl) $$ Hmw Fs2 HO
  iintro ⟨⟨Os2, S2⟩, B2, HO⟩
  iapply (await d L rfl) $$ Hmw Fc0 HO
  iintro ⟨⟨Oc3, C0⟩, A0, HO⟩
  iapply (await d L rfl) $$ Hmw Fs0 HO
  iintro ⟨⟨Os3, S0⟩, B0, HO⟩
  try imodintro
  try imodintro
  -- everything back
  have : Nonempty (Buf (Elt F) (cbufM.view.loc (thr d L))) := ⟨fc⟩
  have : Nonempty (Buf (Elt F) (sbufM.view.loc (thr d L))) := ⟨fs⟩
  ihave Hl := (Entails.of_eq (list_cut d L f).symm) $$ [Lc0 Ls0 Lc1 Ls1 Lc2 Ls2 Lc3 Ls3]
  · isplitl [Lc0 Ls0]; · isplitl [Lc0] <;> iassumption
    isplitl [Lc1 Ls1]; · isplitl [Lc1] <;> iassumption
    isplitl [Lc2 Ls2]; · isplitl [Lc2] <;> iassumption
    isplitl [Lc3] <;> iassumption
  ihave Hc := (slots_join d L cbufM) $$ [C0 C1 C2]
  · isplitl [C0]; · iexact C0
    isplitl [C1] <;> iassumption
  ihave Hs := (slots_join d L sbufM) $$ [S0 S1 S2]
  · isplitl [S0]; · iexact S0
    isplitl [S1] <;> iassumption
  rw [hsetL, hsetC, hsetS]
  unfold Owing
  isplitl [Hpos Hrest Tc0 Tc1 Tc2 Ts0 Ts1 Ts2 Oc0 Oc1 Oc2 Oc3 Os0 Os1 Os2 Os3]
  · isplitl [Hpos Hrest]; · isplitl [Hpos] <;> iassumption
    isplitl [Tc0 Tc1 Tc2]
    · isplitl [Tc0]; · iexact Tc0
      isplitl [Tc1] <;> iassumption
    isplitl [Ts0 Ts1 Ts2]
    · isplitl [Ts0]; · iexact Ts0
      isplitl [Ts1] <;> iassumption
    isplitl [Oc0 Oc1 Oc2 Oc3]
    · isplitl [Oc0]; · iexact Oc0
      isplitl [Oc1]; · iexact Oc1
      isplitl [Oc2] <;> iassumption
    isplitl [Os0]; · iexact Os0
    isplitl [Os1]; · iexact Os1
    isplitl [Os2] <;> iassumption
  isplitl [Hl Hc Hs Hbufs]
  · isplitl [Hl]; · iexists f; iexact Hl
    isplitl [Hc]; · iexact Hc
    isplitl [Hs]; · iexact Hs
    iexact Hbufs
  isplitr [HO]
  · isplitr [Hsems]
    · isplitl [G0]; · iexact G0
      isplitl [G1]; · iexact G1
      isplitl [G2]; · iexact G2
      isplitl [E0]; · iexact E0
      isplitl [E1]; · iexact E1
      isplitl [E2]; · iexact E2
      isplitl [A0]; · iexact A0
      isplitl [A1]; · iexact A1
      isplitl [A2]; · iexact A2
      isplitl [B0]; · iexact B0
      isplitl [B1]; · iexact B1
      isplitl [B2]; · iexact B2
      iexact Vp
    · iexact Hsems
  iexact HO

end Cert.Proof.OfKernelIdeal

end
-- ==== Proof.LaunchIdeal.lean ====
/-
  The same module for the kernel read over the extended reals; Launch.lean with the namespaces replaced.

  The whole program. The launch starts the tiles, each tile's task is the body proved before, and the TensorCore's
  program is the one call and two reshapes. At the end every argument is as it was and the two results are the rows taken,
  reshaped.
-/
module

public import proofs.«01_k».proof.Proof.TileIdeal
public import proofs.«01_k».proof.Proof.Rows

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Steps

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tiles' tasks -/

/-- The grid point of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s =>
          cc0__gather_body (coordsV c s) posM (Memref.isWhole_whole _) cosM (Memref.isWhole_whole _) sinM (Memref.isWhole_whole _)
            coM (Memref.isWhole_whole _) siM (Memref.isWhole_whole _) listM (Memref.isWhole_whole _) cbufM (Memref.isWhole_whole _)
            sbufM (Memref.isWhole_whole _) cc0_scratch3 cc0_scratch4 cc0_scratch5 cc0_scratch6 cc0_scratch7 cc0_scratch8
            cc0_scratch9 cc0_scratch10 cc0_scratch11 cc0_scratch12 cc0_scratch13 cc0_scratch14 cc0_scoped0) ⟨⟩ c s := rfl

omit [FloatOps F] in
/-- A task that waits on its own copies alone has waited on nothing the launch would mind. -/
theorem waits_post {thr : Thread nD τ} {O : CellTallies nD τ sig (HIx 1)} {W : Waits sig (HIx 1)} {q : Fin 1} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp id Or.inl
  iexact HO

set_option maxRecDepth 16384 in
/-- Every tile of the call does its task. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) hpre O W hO).trans (wp_mono frame _ _ fun _ => waits_post)

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The TensorCore's program -/

/-- What the program leaves in its two results. -/
abbrev r1Goal (d : Dev nD) : Buf (Elt F) (r1Loc d) := shapeCast S4x4096x128 (coGoal m d) shapeCasts_S16384x128_S4x4096x128
abbrev r2Goal (d : Dev nD) : Buf (Elt F) (r2Loc d) := shapeCast S4x4096x128 (siGoal m d) shapeCasts_S16384x128_S4x4096x128

abbrev coRef : DevRef τ sig := Proc.devRef .tc (main_v0_0 : Ref sig .tc)
abbrev siRef : DevRef τ sig := Proc.devRef .tc (main_v0_1 : Ref sig .tc)
abbrev r1Ref : DevRef τ sig := Proc.devRef .tc (main_v1 : Ref sig .tc)
abbrev r2Ref : DevRef τ sig := Proc.devRef .tc (main_v2 : Ref sig .tc)

/-- The arrays the two reshapes touch. -/
abbrev reshaped : Finset (DevRef τ sig) := {coRef, siRef, r1Ref, r2Ref}

abbrev reshape1 : HloOp τ sig (Elt F) :=
  StableHlo.reshape main_v0_0 main_v1 (rfl : (.f32 : EltTy) = .f32) shapeCasts_S16384x128_S4x4096x128
abbrev reshape2 : HloOp τ sig (Elt F) :=
  StableHlo.reshape main_v0_1 main_v2 (rfl : (.f32 : EltTy) = .f32) shapeCasts_S16384x128_S4x4096x128

/-- The device's contents once the call is over. -/
def afterCall (d : Dev nD) : Valuation τ sig (Elt F) :=
  Function.update (Function.update (fun b => m (d, b)) coRef (coGoal m d)) siRef (siGoal m d)

omit [FloatOps F] in
theorem held_reshaped (d : Dev nD) (V : Valuation τ sig (Elt F)) :
    (held (T d) reshaped V : sProp 𝕄)
      = iprop((coLoc d ↦{fullShare} V coRef) ∗ (siLoc d ↦{fullShare} V siRef) ∗ (r1Loc d ↦{fullShare} V r1Ref) ∗ r2Loc d ↦{fullShare} V r2Ref) := by
  unfold held reshaped
  rw [SparseCore.bigSep_insert' (by decide), SparseCore.bigSep_insert' (by decide), SparseCore.bigSep_insert' (by decide), bigSep_singleton]

omit [FloatOps F] in
/-- Before the first reshape: the call's arrays at the rows taken, the results as they were. -/
theorem held_before (d : Dev nD) :
    (held (T d) reshaped (afterCall m d) : sProp 𝕄)
      = iprop((coLoc d ↦{fullShare} coGoal m d) ∗ (siLoc d ↦{fullShare} siGoal m d) ∗ (r1Loc d ↦{fullShare} m (r1Loc d)) ∗ r2Loc d ↦{fullShare} m (r2Loc d)) := by
  rw [held_reshaped]
  rw [show afterCall m d coRef = coGoal m d from
      (Function.update_of_ne (show coRef ≠ siRef by decide) _ _).trans (Function.update_self _ _ _),
    show afterCall m d siRef = siGoal m d from Function.update_self _ _ _,
    show afterCall m d r1Ref = m (r1Loc d) from
      (Function.update_of_ne (show r1Ref ≠ siRef by decide) _ _).trans (Function.update_of_ne (show r1Ref ≠ coRef by decide) _ _),
    show afterCall m d r2Ref = m (r2Loc d) from
      (Function.update_of_ne (show r2Ref ≠ siRef by decide) _ _).trans (Function.update_of_ne (show r2Ref ≠ coRef by decide) _ _)]

/-- The contents once both reshapes are over. -/
abbrev atEnd (d : Dev nD) : Valuation τ sig (Elt F) := reshape2.result (reshape1.result (afterCall m d))

omit [FloatOps F] in
theorem atEnd_r1 (d : Dev nD) : atEnd m d r1Ref = r1Goal m d := by
  unfold atEnd
  rw [StableHlo.reshape_result_ne (h := show (main_v1 : Ref sig .tc) ≠ main_v2 by decide), StableHlo.reshape_result]
  rw [show afterCall m d coRef = coGoal m d from
      (Function.update_of_ne (show coRef ≠ siRef by decide) _ _).trans (Function.update_self _ _ _)]
  rfl

omit [FloatOps F] in
theorem atEnd_r2 (d : Dev nD) : atEnd m d r2Ref = r2Goal m d := by
  unfold atEnd
  rw [StableHlo.reshape_result, StableHlo.reshape_result_ne (h := show (main_v0_1 : Ref sig .tc) ≠ main_v1 by decide)]
  rw [show afterCall m d siRef = siGoal m d from Function.update_self _ _ _]
  rfl

omit [FloatOps F] in
theorem reshape1_within : (reshape1 (F := F)).bufs ⊆ reshaped := show ({coRef, r1Ref} : Finset (DevRef τ sig)) ⊆ reshaped by decide
omit [FloatOps F] in
theorem reshape2_within : (reshape2 (F := F)).bufs ⊆ reshaped := show ({siRef, r2Ref} : Finset (DevRef τ sig)) ⊆ reshaped by decide

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (posLoc d ↦{fullShare} W main_arg1) ∗ (cosLoc d ↦{fullShare} W main_arg2)
          ∗ (sinLoc d ↦{fullShare} W main_arg3) ∗ (coLoc d ↦{fullShare} W main_v0_0) ∗ (siLoc d ↦{fullShare} W main_v0_1)
          ∗ (r1Loc d ↦{fullShare} W main_v1) ∗ r2Loc d ↦{fullShare} W main_v2) := by
  unfold unscopedBufs
  rw [show (Finset.univ.filter fun b : Ref sig .tc => ¬ b.isScoped)
      = {main_arg0, main_arg1, main_arg2, main_arg3, main_v0_0, main_v0_1, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the program leaves: the arguments as they were, the results at the rows taken. -/
abbrev FIN (d : Dev nD) : sProp 𝕄 :=
  iprop((xLoc d ↦{fullShare} m (xLoc d)) ∗ (posLoc d ↦{fullShare} m (posLoc d)) ∗ (cosLoc d ↦{fullShare} m (cosLoc d))
    ∗ (sinLoc d ↦{fullShare} m (sinLoc d)) ∗ (r1Loc d ↦{fullShare} r1Goal m d) ∗ r2Loc d ↦{fullShare} r2Goal m d)

/-- The TensorCore's program on device `d`: the call, then a reshape of each array it wrote. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Hc, Hs, Hco, Hsi, Hr1, Hr2⟩, Hts, -⟩, -⟩
  iapply ((K (F := F)).wp_run (D (F := F)) 𝒱 (EH := EH) (P := P m) κ d 0) $$ [Hst Hx Hp Hc Hs Hco Hsi Hr1 Hr2 Hb Hts]
  isplitr; · iexact Hctx
  isplitl [Hst]; · iexact Hst
  isplitl [Hp Hc Hs Hco Hsi]
  · rw [st_whole]
    isplitl [Hp]; · iexact Hp
    isplitl [Hc]; · iexact Hc
    isplitl [Hs]; · iexact Hs
    isplitl [Hco]; · iexact Hco
    iexact Hsi
  iintro ⟨Hst, Hdn⟩
  ihave Hdn' := (Entails.of_eq (dn_whole m d)) $$ Hdn
  icases Hdn' with ⟨Hp, Hc, Hs, Hco, Hsi⟩
  iapply (wp_hlo_within 𝒱 (SparseCore.T d) none Set.univ (op := reshape1) (S := reshaped) reshape1_within (V := afterCall m d)) $$ [Hb Hco Hsi Hr1 Hr2]
  · isplitl [Hb]; · iexact Hb
    rw [held_before]
    isplitl [Hco]; · iexact Hco
    isplitl [Hsi]; · iexact Hsi
    isplitl [Hr1]; · iexact Hr1
    iexact Hr2
  iintro ⟨Hb, Hheld⟩
  rw [wp_ret]; imodintro
  iapply (wp_hlo_within 𝒱 (SparseCore.T d) none Set.univ (op := reshape2) (S := reshaped) reshape2_within (V := reshape1.result (afterCall m d))) $$ [Hb Hheld]
  · isplitl [Hb]; · iexact Hb
    iexact Hheld
  iintro ⟨Hb, Hheld⟩
  ihave Hh := (Entails.of_eq (held_reshaped (F := F) d (atEnd m d))) $$ Hheld
  rw [atEnd_r1, atEnd_r2]
  icases Hh with ⟨-, -, Hr1, Hr2⟩
  rw [wp_ret]; imodintro; imodintro
  isplitl [Hst]; · iexact Hst
  isplitr [Hb Hts]
  · isplitl [Hx]; · iexact Hx
    isplitl [Hp]; · iexact Hp
    isplitl [Hc]; · iexact Hc
    isplitl [Hs]; · iexact Hs
    isplitl [Hr1]; · iexact Hr1
    iexact Hr2
  isplitl [Hb] <;> iassumption

/-! ## The run -/

/-- A final memory: the arguments as they were and the results at the rows taken. -/
def Done (M : (ℓ : Loc nD τ sig) → Buf (Elt F) ℓ) (d : Dev nD) : Prop :=
  M (xLoc d) = m (xLoc d) ∧ M (posLoc d) = m (posLoc d) ∧ M (cosLoc d) = m (cosLoc d) ∧ M (sinLoc d) = m (sinLoc d)
    ∧ M (r1Loc d) = r1Goal m d ∧ M (r2Loc d) = r2Goal m d

omit [FloatOps F] in
/-- An array held whole is what the memory holds; nothing is spent. -/
theorem agree_whole (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜Done m s'.mem.mem d⌝ : sProp 𝕄) := by
  iintro ⟨⟨Hx, Hp, Hc, Hs, Hr1, Hr2⟩, HSI⟩
  ihave H := (agree_whole s' _ _) $$ [HSI Hx]
  · isplitl [HSI] <;> iassumption
  icases H with ⟨%h0, HSI⟩
  ihave H := (agree_whole s' _ _) $$ [HSI Hp]
  · isplitl [HSI] <;> iassumption
  icases H with ⟨%h1, HSI⟩
  ihave H := (agree_whole s' _ _) $$ [HSI Hc]
  · isplitl [HSI] <;> iassumption
  icases H with ⟨%h2, HSI⟩
  ihave H := (agree_whole s' _ _) $$ [HSI Hs]
  · isplitl [HSI] <;> iassumption
  icases H with ⟨%h3, HSI⟩
  ihave H := (agree_whole s' _ _) $$ [HSI Hr1]
  · isplitl [HSI] <;> iassumption
  icases H with ⟨%h4, HSI⟩
  ihave H := (agree_whole s' _ _) $$ [HSI Hr2]
  · isplitl [HSI] <;> iassumption
  icases H with ⟨%h5, -⟩
  ipureintro; exact ⟨h0, h1, h2, h3, h4, h5⟩

/-- What a run ends in: every device done, every semaphore at zero. -/
def QC : PUnit × MemSt nD τ sig (Elt F) → Prop := fun r => (∀ d : Dev nD, Done m r.2.mem d) ∧ r.2.sem = fun _ => 0

/-- Whenever every position is a row of the tables, the program runs to its end, faults nowhere, and ends in `QC`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fun d s' => Done m s'.mem.mem d) (hfin m)
    (QC m) (fun _ h hz => ⟨h, hz⟩)

/-! ## The results in terms of the arguments -/

omit [FloatOps F] in
/-- The rows taken, position by position, and reshaped, are the rows the positions name. -/
theorem taken_reshaped (pos : S4x4096.Idx → BitVec 32) (tbl : S65536x128.Idx → Elt F .f32) :
    shapeCast S4x4096x128 (taken (F := F) (e := .f32) pos tbl) shapeCasts_S16384x128_S4x4096x128 = Rows.looked pos tbl := by
  funext x
  have h0 : (x 0).val < 4 := (x 0).isLt
  have h1 : (x 1).val < 4096 := (x 1).isLt
  have hp : (x 0).val * 4096 + (x 1).val < 16384 := by omega
  rw [shapeCast_apply _ _ x (Shape.pair (d := ![16384, 128]) ⟨(x 0).val * 4096 + (x 1).val, hp⟩ (x 2)) (by
    rw [Shape.rowMajor_val_two, Shape.rowMajor_val_three]; rfl)]
  have hix : posIx ⟨(x 0).val * 4096 + (x 1).val, hp⟩ = Shape.pair (d := ![4, 4096]) (x 0) (x 1) := by
    unfold posIx
    congr 1
    · exact Fin.ext (by show ((x 0).val * 4096 + (x 1).val) / 4096 = (x 0).val; omega)
    · exact Fin.ext (by show ((x 0).val * 4096 + (x 1).val) % 4096 = (x 1).val; omega)
  show tbl (Shape.pair (d := ![65536, 128]) (rowAt pos ⟨(x 0).val * 4096 + (x 1).val, hp⟩) (x 2)) = _
  have hr : rowAt pos ⟨(x 0).val * 4096 + (x 1).val, hp⟩
      = ⟨(pos (Shape.pair (d := ![4, 4096]) (x 0) (x 1))).toNat % 65536, Nat.mod_lt _ (by omega)⟩ :=
    Fin.ext (congrArg (fun j => (pos j).toNat % 65536) hix)
  rw [hr]
  rfl

/-- The program's run, its results in terms of its arguments: each is the rows of its table that the positions name. -/
theorem run_looked [∀ e, Nonempty (Elt F e)] (hpre : PreOK m) :
    θ_run (Cert.KernelIdeal.defs (F := F)) (Cert.KernelIdeal.threads (F := F)) ⟨m, fun _ => 0, ρ⟩ fun r => ∀ d : Dev nD,
      r.2.mem (r1Loc d) = Rows.looked (m (posLoc d)) (m (cosLoc d)) ∧ r.2.mem (r2Loc d) = Rows.looked (m (posLoc d)) (m (sinLoc d))
      ∧ r.2.mem (xLoc d) = m (xLoc d) ∧ r.2.mem (posLoc d) = m (posLoc d) ∧ r.2.mem (cosLoc d) = m (cosLoc d)
      ∧ r.2.mem (sinLoc d) = m (sinLoc d) :=
  (θ_run (Cert.KernelIdeal.defs (F := F)) _ _).mono
    (fun _ h d => have ⟨h0, h1, h2, h3, h4, h5⟩ := h.1 d
      ⟨h4.trans (taken_reshaped _ _), h5.trans (taken_reshaped _ _), h0, h1, h2, h3⟩)
    (run_main m ρ hpre)

/-- The program's run, for its frame: its arguments as they were, every semaphore at zero. -/
theorem run_frame [∀ e, Nonempty (Elt F e)] (hpre : PreOK m) :
    θ_run (Cert.KernelIdeal.defs (F := F)) (Cert.KernelIdeal.threads (F := F)) ⟨m, fun _ => 0, ρ⟩ fun r => (∀ d : Dev nD,
      r.2.mem (xLoc d) = m (xLoc d) ∧ r.2.mem (posLoc d) = m (posLoc d) ∧ r.2.mem (cosLoc d) = m (cosLoc d)
      ∧ r.2.mem (sinLoc d) = m (sinLoc d)) ∧ r.2.sem = fun _ => 0 :=
  (θ_run (Cert.KernelIdeal.defs (F := F)) _ _).mono
    (fun _ h => ⟨fun d => have ⟨h0, h1, h2, h3, _⟩ := h.1 d; ⟨h0, h1, h2, h3⟩, h.2⟩)
    (run_main m ρ hpre)

end Cert.Proof.OfKernelIdeal

end
-- ==== Proof.RefValueIdeal.lean ====
/-
  The same module for the reference read over the extended reals; RefValue.lean with the namespaces replaced.

  The reference's run. It wraps a negative position, gathers the rows, and puts a fill value where a position is no row of
  the table. At positions that are rows nothing is wrapped and nothing is filled, and what is left is the rows themselves.
-/
module

public import proofs.«01_k».proof.Proof.Rows
public import proofs.«01_k».proof.Proof.Gen.ReferenceIdeal.Run

@[expose] public section

noncomputable section

namespace Cert.Proof.OfReferenceIdeal

open Cert.ReferenceIdeal Cert.ReferenceIdeal.Gen
open Idealize.ShloMosaic Idealize.ShloMosaic.TcCoe Idealize.SL.Sem
open Cert.Proof.Rows

variable {F : FTy → Type} [FloatOps F]

/-- The positions with negative ones wrapped, as the reference computes them. -/
abbrev wrapped (pos : IVec S4x4096 32) : IVec S4x4096 32 :=
  select (cmpi .slt pos (broadcastInDim S4x4096 ![] bcast_S_S4x4096 (constantI S_ 32 0#32)))
    (addi pos (broadcastInDim S4x4096 ![] bcast_S_S4x4096 (constantI S_ 32 65536#32))) pos

/-- The same, as start indices of the gather. -/
abbrev starts (pos : IVec S4x4096 32) : IVec S4x4096x1 32 :=
  broadcastInDim S4x4096x1 ![0, 1] bcast_S4x4096_S4x4096x1_0_1 (wrapped pos)

/-- Which positions are rows of the table, as the reference computes it. -/
abbrev valid (pos : IVec S4x4096 32) : IVec S4x4096 1 :=
  Host.reduce IntOp.andi
    (andi (cmpi .sge (starts pos) (broadcastInDim S4x4096x1 ![] bcast_S_S4x4096x1 (constantI S_ 32 0#32)))
      (cmpi .sle (starts pos) (broadcastInDim S4x4096x1 ![0, 1, 2] bcast_S1x1x1_S4x4096x1_0_1_2
        (broadcastInDim S1x1x1 ![2] bcast_S1_S1x1x1_2 (constantI S1 32 65535#32)))))
    (constantI S_ 1 1#1) reducesTo_S4x4096x1_S4x4096_d2 h_S_

/-- What the reference makes of the positions and one table. -/
abbrev refOut (pos : IVec S4x4096 32) (tbl : FVec F S65536x128 .f32) : FVec F S4x4096x128 .f32 :=
  select (broadcastInDim S4x4096x128 ![0, 1] bcast_S4x4096_S4x4096x128_0_1 (valid pos))
    (Host.gather gather_S65536x128_S4x4096x1_S4x4096x128_2_0_n_n_0_2_1128 tbl (starts pos))
    (broadcastInDim S4x4096x128 ![] bcast_S_S4x4096x128 (constant S_ .f32 0x7FC00000#32))

omit [FloatOps F] in
/-- A position that is a row of the table is not wrapped. -/
theorem wrapped_eq {pos : IVec S4x4096 32} (h : ∀ j, (pos j).toNat < 65536) : wrapped pos = pos :=
  funext fun j => if_neg (not_negative (h j))

/-- The place of start index `y` among the positions. -/
abbrev placeOf (y : S4x4096x1.Idx) : S4x4096.Idx := Shape.pair (d := ![4, 4096]) (y 0) (y 1)

theorem starts_eq {pos : IVec S4x4096 32} (h : ∀ j, (pos j).toNat < 65536) (y : S4x4096x1.Idx) :
    starts pos y = pos (placeOf y) := by
  unfold starts
  rw [wrapped_eq h]
  refine broadcastInDim_apply _ _ _ _ _ fun a => ?_
  match a with
  | ⟨0, _⟩ => rfl
  | ⟨1, _⟩ => rfl

/-- Every position that is a row of the table passes the reference's check. -/
theorem valid_eq {pos : IVec S4x4096 32} (h : ∀ j, (pos j).toNat < 65536) (j : S4x4096.Idx) : valid pos j = 1#1 := by
  unfold valid
  refine Host.reduce_andi_one _ _ reducesTo_S4x4096x1_S4x4096_d2 h_S_ j ?_ ?_
  · rfl
  intro y
  show IntOp.andi (IntOp.cmpi .sge (starts pos y) 0#32) (IntOp.cmpi .sle (starts pos y) 65535#32) = 1#1
  rw [starts_eq h]
  exact in_table (h _)

/-- At positions that are rows of the table, the reference returns those rows. -/
theorem refOut_eq {pos : IVec S4x4096 32} (h : ∀ j, (pos j).toNat < 65536) (tbl : FVec F S65536x128 .f32) :
    refOut pos tbl = looked pos tbl := by
  funext x
  have hv : (broadcastInDim S4x4096x128 ![0, 1] bcast_S4x4096_S4x4096x128_0_1 (valid pos)) x = 1#1 := valid_eq h _
  have hs : refOut pos tbl x = Host.gather gather_S65536x128_S4x4096x1_S4x4096x128_2_0_n_n_0_2_1128 tbl (starts pos) x := by
    unfold refOut select
    rw [hv]
    exact if_pos rfl
  refine hs.trans ?_
  refine (gather_rows gather_S65536x128_S4x4096x1_S4x4096x128_2_0_n_n_0_2_1128_wf tbl (starts pos) x (by rw [starts_eq h]; exact h _)).trans ?_
  unfold looked
  rw [starts_eq h]
  rfl

/-- The reference's run, where every position is a row of the tables. -/
theorem run_looked (m : (ℓ : Loc nD τ sig) → Buf (Elt F) ℓ) (ρ : Dev nD → PrngReg)
    (h : ∀ (d : Dev nD) (j : S4x4096.Idx), (m ((d.tc : Thread nD τ).loc main_arg1) j : BitVec 32).toNat < 65536) :
    θ_run defs (onTc (τ := τ) (main (F := F))) ⟨m, fun _ => 0, ρ⟩ fun r => ∀ d : Dev nD,
      r.2.mem ((d.tc : Thread nD τ).loc main_v0) = looked (m ((d.tc : Thread nD τ).loc main_arg1)) (m ((d.tc : Thread nD τ).loc main_arg2))
      ∧ r.2.mem ((d.tc : Thread nD τ).loc main_v1) = looked (m ((d.tc : Thread nD τ).loc main_arg1)) (m ((d.tc : Thread nD τ).loc main_arg3))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3) :=
  (θ_run defs _ _).mono (fun _ hr d => ⟨(hr d).1.trans (refOut_eq (h d) _), (hr d).2.1.trans (refOut_eq (h d) _), (hr d).2.2⟩)
    (Cert.ReferenceIdeal.Value.run m ρ)

/-- From any memory the reference runs, leaves its arguments as they were, and ends with every semaphore at zero. -/
theorem run_frame (m : (ℓ : Loc nD τ sig) → Buf (Elt F) ℓ) (ρ : Dev nD → PrngReg) :
    θ_run defs (onTc (τ := τ) (main (F := F))) ⟨m, fun _ => 0, ρ⟩ fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)) ∧ r.2.sem = fun _ => 0 :=
  (θ_run defs _ _).mono (fun r hr => ⟨fun d => (hr d).2.2, sem_eq_zero_of_no_sems (by decide) r.2⟩) (Cert.ReferenceIdeal.Value.run m ρ)

end Cert.Proof.OfReferenceIdeal

end
-- ==== Proof.lean ====
/-
  The certificate. Kernel and reference each run from any memory whose positions are rows of the tables, and both leave, in
  each result, the rows of its table that the positions name (Rows.lean `looked`). That is the frame of each program and
  the two claims that compare them, over the extended reals and word for word.
-/
module

public import proofs.«01_k».proof.Defs
public import proofs.«01_k».proof.Proof.Launch
public import proofs.«01_k».proof.Proof.LaunchIdeal
public import proofs.«01_k».proof.Proof.RefValue
public import proofs.«01_k».proof.Proof.RefValueIdeal
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ hpre =>
  OfKernel.run_frame (F := Bits) m ρ fun d => Rows.inRange_of_pre (hpre d)

/-- The frame of the kernel over the extended reals. -/
theorem frame_kernel_ideal : Cert.quiescent_KernelIdeal := fun m ρ hpre =>
  OfKernelIdeal.run_frame (F := Ideal) m ρ fun d => Rows.inRange_of_pre (hpre d)

/-- Over the extended reals the kernel and the reference return the same two results. -/
theorem same_ideal : Cert.algebraic_KernelIdeal_ReferenceIdeal := by
  intro m g m' g' hpre hagree
  have ok : OfKernelIdeal.PreOK (F := Ideal) m := fun d => Rows.inRange_of_pre (hpre d)
  refine ⟨_, _, OfKernelIdeal.run_looked m g ok, ?_⟩
  refine (θ_run Cert.ReferenceIdeal.defs _ _).mono (fun r hr d => ?_)
    (OfReferenceIdeal.run_looked (F := Ideal) m' g' fun d j => by rw [(hagree d).2.1]; exact ok d j)
  obtain ⟨h0, h1, h⟩ := hr d
  rw [(hagree d).2.1, (hagree d).2.2.1] at h0
  rw [(hagree d).2.1, (hagree d).2.2.2] at h1
  exact ⟨h0, h1, h⟩

/-- Word for word the kernel and the reference return the same two results. -/
theorem same_words : Cert.bitexact_Kernel_Reference := by
  intro m g m' g' hpre hagree
  have ok : OfKernel.PreOK (F := Bits) m := fun d => Rows.inRange_of_pre (hpre d)
  refine ⟨_, _, OfKernel.run_looked m g ok, ?_⟩
  refine (θ_run Cert.Reference.defs _ _).mono (fun r hr d => ?_)
    (OfReference.run_looked (F := Bits) m' g' fun d j => by rw [(hagree d).2.1]; exact ok d j)
  obtain ⟨h0, h1, h⟩ := hr d
  rw [(hagree d).2.1, (hagree d).2.2.1] at h0
  rw [(hagree d).2.1, (hagree d).2.2.2] at h1
  exact ⟨h0, h1, h⟩

/-- Every claim of the certificate. -/
theorem claim : Cert.Claim :=
  ⟨Cert.Kernel.Gen.facts, Cert.KernelIdeal.Gen.facts, Cert.Reference.Gen.facts, Cert.ReferenceIdeal.Gen.facts, Cert.Pre_ids_in_range.Gen.facts,
    frame_kernel, frame_kernel_ideal,
    fun m ρ _ => OfReference.run_frame (F := Bits) m ρ, fun m ρ _ => OfReference.run_frame (F := Bits) m ρ,
    fun m ρ _ => OfReferenceIdeal.run_frame (F := Ideal) m ρ, fun m ρ _ => OfReferenceIdeal.run_frame (F := Ideal) m ρ,
    trivial, same_ideal, same_words⟩

end Cert.Proof

end
